-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_generic_inputs [hPre_generic_inputs : Cert.Pre_generic_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_generic_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_generic_inputs [hPre_generic_inputs : Cert.Pre_generic_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_generic_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_generic_inputs [hKernelIdeal : Cert.KernelIdeal.Facts] [hPre_generic_inputs : Cert.Pre_generic_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_generic_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_generic_inputs [hReferenceIdeal : Cert.ReferenceIdeal.Facts] [hPre_generic_inputs : Cert.Pre_generic_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_generic_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.sign_bit.Statement Cert.KernelIdeal.S1024x1 .f32

def algebraic_KernelIdeal_ReferenceIdeal_pre_generic_inputs [hKernelIdeal : Cert.KernelIdeal.Facts] [hReferenceIdeal : Cert.ReferenceIdeal.Facts] [hPre_generic_inputs : Cert.Pre_generic_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_generic_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v381) = v0 c
          ∧ r.2.mem ((c.tc : Thread Cert.ReferenceIdeal.nD Cert.ReferenceIdeal.τ).loc Cert.ReferenceIdeal.main_v382) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_generic_inputs : Cert.Pre_generic_inputs.Facts),
    quiescent_Kernel (hKernel := hKernel)
    ∧ quiescent_KernelIdeal (hKernelIdeal := hKernelIdeal)
    ∧ quiescent_KernelIdeal_pre_generic_inputs (hKernelIdeal := hKernelIdeal) (hPre_generic_inputs := hPre_generic_inputs)
    ∧ quiescent_ReferenceIdeal (hReferenceIdeal := hReferenceIdeal)
    ∧ quiescent_ReferenceIdeal_pre_generic_inputs (hReferenceIdeal := hReferenceIdeal) (hPre_generic_inputs := hPre_generic_inputs)
    ∧ preserves_Kernel_KernelIdeal
    ∧ algebraic_KernelIdeal_ReferenceIdeal_pre_generic_inputs (hKernelIdeal := hKernelIdeal) (hReferenceIdeal := hReferenceIdeal) (hPre_generic_inputs := hPre_generic_inputs)
-- ==== Pre_generic_inputs.lean ====
abbrev S32768x3 : Shape := ⟨2, ![32768, 3]⟩
abbrev S32768x3x3 : Shape := ⟨3, ![32768, 3, 3]⟩
abbrev S125x1x32 : Shape := ⟨3, ![125, 1, 32]⟩
abbrev S1x32 : Shape := ⟨2, ![1, 32]⟩
abbrev S32 : Shape := ⟨1, ![32]⟩
abbrev S32x256 : Shape := ⟨2, ![32, 256]⟩
abbrev S256 : Shape := ⟨1, ![256]⟩
abbrev S256x40 : Shape := ⟨2, ![256, 40]⟩
abbrev S40 : Shape := ⟨1, ![40]⟩
abbrev S_ : Shape := ⟨0, ![]⟩
abbrev S32x1024x3 : Shape := ⟨3, ![32, 1024, 3]⟩
abbrev S32x1024 : Shape := ⟨2, ![32, 1024]⟩
abbrev S32x1024x1 : Shape := ⟨3, ![32, 1024, 1]⟩
abbrev S32x1x1024 : Shape := ⟨3, ![32, 1, 1024]⟩
abbrev S32x1024x1024 : Shape := ⟨3, ![32, 1024, 1024]⟩
abbrev S1024x1024 : Shape := ⟨2, ![1024, 1024]⟩
abbrev S1x1024x1024 : Shape := ⟨3, ![1, 1024, 1024]⟩
abbrev S32x1024x21 : Shape := ⟨3, ![32, 1024, 21]⟩
abbrev S32x1x1 : Shape := ⟨3, ![32, 1, 1]⟩
abbrev S32x1024x20 : Shape := ⟨3, ![32, 1024, 20]⟩
abbrev S32x1024x20x1 : Shape := ⟨4, ![32, 1024, 20, 1]⟩
abbrev S32x1024x20x2 : Shape := ⟨4, ![32, 1024, 20, 2]⟩
abbrev S32x1024x20x3 : Shape := ⟨4, ![32, 1024, 20, 3]⟩
abbrev S32x1024x1x3 : Shape := ⟨4, ![32, 1024, 1, 3]⟩
abbrev S32768x20x3 : Shape := ⟨3, ![32768, 20, 3]⟩
abbrev S32768x20x1 : Shape := ⟨3, ![32768, 20, 1]⟩
abbrev S32768x20 : Shape := ⟨2, ![32768, 20]⟩
abbrev S32768 : Shape := ⟨1, ![32768]⟩

class Facts : Prop where
  bcast_S_S32768x3 : S_.BroadcastsInDim S32768x3 (![] : Fin 0 → Fin S32768x3.rank)
  reducesTo_S32768x3_S_d0_1 : S32768x3.ReducesTo [0, 1] S_
  h_S_ : 0 < S_.numel
  bcast_S_S32768x3x3 : S_.BroadcastsInDim S32768x3x3 (![] : Fin 0 → Fin S32768x3x3.rank)
  reducesTo_S32768x3x3_S_d0_1_2 : S32768x3x3.ReducesTo [0, 1, 2] S_
  shapeCasts_S32768x3_S32x1024x3 : S32768x3.ShapeCasts S32x1024x3
  reducesTo_S32x1024x3_S32x1024_d2 : S32x1024x3.ReducesTo [2] S32x1024
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S_S1x1024x1024 : S_.BroadcastsInDim S1x1024x1024 (![] : Fin 0 → Fin S1x1024x1024.rank)
  bcast_S1x1024x1024_S32x1024x1024_0_1_2 : S1x1024x1024.BroadcastsInDim S32x1024x1024 (![0, 1, 2] : Fin 3 → Fin S32x1024x1024.rank)
  sliceFits_S32x1024x1024_S32x1024x21 : S32x1024x1024.Slices (fun _ => 0) S32x1024x21
  slices_S32x1024x21_S32x1024x1_0_0_19 : S32x1024x21.Slices ![0, 0, 19] S32x1024x1
  shapeCasts_S32x1024x1_S32x1024 : S32x1024x1.ShapeCasts S32x1024
  slices_S32x1024x21_S32x1024x1_0_0_20 : S32x1024x21.Slices ![0, 0, 20] S32x1024x1
  reducesTo_S32x1024_S_d0_1 : S32x1024.ReducesTo [0, 1] S_
  bcast_S32_S32x1x1_0 : S32.BroadcastsInDim S32x1x1 (![0] : Fin 1 → Fin S32x1x1.rank)
  slices_S32x1024x21_S32x1024x20_0_0_0 : S32x1024x21.Slices ![0, 0, 0] S32x1024x20
  bcast_S_S32x1x1 : S_.BroadcastsInDim S32x1x1 (![] : Fin 0 → Fin S32x1x1.rank)
  bcast_S_S32x1024x20 : S_.BroadcastsInDim S32x1024x20 (![] : Fin 0 → Fin S32x1024x20.rank)
  bcast_S32x1x1_S32x1024x20_0_1_2 : S32x1x1.BroadcastsInDim S32x1024x20 (![0, 1, 2] : Fin 3 → Fin S32x1024x20.rank)
  bcast_S32x1024x20_S32x1024x20x1_0_1_2 : S32x1024x20.BroadcastsInDim S32x1024x20x1 (![0, 1, 2] : Fin 3 → Fin S32x1024x20x1.rank)
  concatenates_S32x1024x20x1_S32x1024x20x1_S32x1024x20x2_d3 : Shape.Concatenates [S32x1024x20x1, S32x1024x20x1] S32x1024x20x2 3
  bcast_S32x1024x3_S32x1024x1x3_0_1_3 : S32x1024x3.BroadcastsInDim S32x1024x1x3 (![0, 1, 3] : Fin 3 → Fin S32x1024x1x3.rank)
  bcast_S32x1024x1x3_S32x1024x20x3_0_1_2_3 : S32x1024x1x3.BroadcastsInDim S32x1024x20x3 (![0, 1, 2, 3] : Fin 4 → Fin S32x1024x20x3.rank)
  shapeCasts_S32x1024x20x3_S32768x20x3 : S32x1024x20x3.ShapeCasts S32768x20x3
  slices_S32768x20x3_S32768x20x1_0_0_2 : S32768x20x3.Slices ![0, 0, 2] S32768x20x1
  shapeCasts_S32768x20x1_S32768x20 : S32768x20x1.ShapeCasts S32768x20
  reducesTo_S32768x20_S32768_d1 : S32768x20.ReducesTo [1] S32768
  bcast_S_S32768 : S_.BroadcastsInDim S32768 (![] : Fin 0 → Fin S32768.rank)
  reducesTo_S32768_S_d0 : S32768.ReducesTo [0] S_
  dot_S32x1024x3_S32x1024x3_S32x1024x1024_2_2_1_1_0_0_wf : DotDims.WF S32x1024x3 S32x1024x3 S32x1024x1024 [2] [2] [1] [1] [0] [0]
  gather_S32x1024x3_S32x1024x20x2_S32x1024x20x3_3_01_n_n_01_3_113_wf : GatherDims.WF S32x1024x3 S32x1024x20x2 S32x1024x20x3 [3] [0, 1] [] [0, 1] [] 3 ![1, 1, 3]
  dot_S32768x20x3_S32768x3x3_S32768x20x3_2_1_1_2_0_0_wf : DotDims.WF S32768x20x3 S32768x3x3 S32768x20x3 [2] [1] [1] [2] [0] [0]

variable [Facts]

def dot_S32x1024x3_S32x1024x3_S32x1024x1024_2_2_1_1_0_0 : DotDims S32x1024x3 S32x1024x3 S32x1024x1024 where
  lhsContracting := [2]
  rhsContracting := [2]
  lhsNonContracting := [1]
  rhsNonContracting := [1]
  lhsBatch := [0]
  rhsBatch := [0]
  wf := dot_S32x1024x3_S32x1024x3_S32x1024x1024_2_2_1_1_0_0_wf
def gather_S32x1024x3_S32x1024x20x2_S32x1024x20x3_3_01_n_n_01_3_113 : GatherDims S32x1024x3 S32x1024x20x2 S32x1024x20x3 where
  offsetDims := [3]
  collapsedSliceDims := [0, 1]
  operandBatchingDims := []
  startIndicesBatchingDims := []
  startIndexMap := [0, 1]
  indexVectorDim := 3
  sliceSizes := ![1, 1, 3]
  wf := gather_S32x1024x3_S32x1024x20x2_S32x1024x20x3_3_01_n_n_01_3_113_wf
def dot_S32768x20x3_S32768x3x3_S32768x20x3_2_1_1_2_0_0 : DotDims S32768x20x3 S32768x3x3 S32768x20x3 where
  lhsContracting := [2]
  rhsContracting := [1]
  lhsNonContracting := [1]
  rhsNonContracting := [2]
  lhsBatch := [0]
  rhsBatch := [0]
  wf := dot_S32768x20x3_S32768x3x3_S32768x20x3_2_1_1_2_0_0_wf
def fn_part3 {F : FTy → Type} [FloatOps F] (main_arg1 : FVec F S32768x3x3 .f32) (main_v8 : IVec S_ 1) (main_v9 : FVec F S32x1024x3 .f32) (main_v38 : IVec S_ 1) (main_v56 : FVec F S32x1024x20x3 .f32) : IVec S_ 1 :=
  let main_v57 : FVec F S32x1024x1x3 .f32 := broadcastInDim S32x1024x1x3 ![0, 1, 3] bcast_S32x1024x3_S32x1024x1x3_0_1_3 main_v9
  let main_v58 : FVec F S32x1024x20x3 .f32 := broadcastInDim S32x1024x20x3 ![0, 1, 2, 3] bcast_S32x1024x1x3_S32x1024x20x3_0_1_2_3 main_v57
  let main_v59 : FVec F S32x1024x20x3 .f32 := subf main_v58 main_v56
  let main_v60 : FVec F S32768x20x3 .f32 := shapeCast S32768x20x3 main_v59 shapeCasts_S32x1024x20x3_S32768x20x3
  let main_v61 : FVec F S32768x20x3 .f32 := (fun l r => Host.dotGeneral dot_S32768x20x3_S32768x3x3_S32768x20x3_2_1_1_2_0_0 none l r) main_v60 main_arg1
  let main_v62 : FVec F S32768x20x1 .f32 := (extractStridedSlice S32768x20x1 ![0, 0, 2] · slices_S32768x20x3_S32768x20x1_0_0_2) main_v61
  let main_v63 : FVec F S32768x20 .f32 := shapeCast S32768x20 main_v62 shapeCasts_S32768x20x1_S32768x20
  let main_cst_11 : FVec F S_ .f32 := constant S_ .f32 0x00000000#32
  let main_v64 : FVec F S32768 .f32 := (fun x v => Host.reduceAdd x v reducesTo_S32768x20_S32768_d1 h_S_) main_v63 main_cst_11
  let main_cst_12 : FVec F S_ .f32 := constant S_ .f32 0x00000000#32
  let main_v65 : FVec F S32768 .f32 := broadcastInDim S32768 ![] bcast_S_S32768 main_cst_12
  let main_v66 : IVec S32768 1 := cmpf .une main_v64 main_v65
  let main_c_13 : IVec S_ 1 := constantI S_ 1 1#1
  let main_v67 : IVec S_ 1 := (fun x v => Host.reduce IntOp.andi x v reducesTo_S32768_S_d0 h_S_) main_v66 main_c_13
  let main_v68 : IVec S_ 1 := andi main_v8 main_v38
  let main_v69 : IVec S_ 1 := andi main_v68 main_v67
  main_v69

def fn_part2 {F : FTy → Type} [FloatOps F] (main_arg1 : FVec F S32768x3x3 .f32) (main_v8 : IVec S_ 1) (main_v9 : FVec F S32x1024x3 .f32) (main_indices : IVec S32x1024x21 32) (main_v37 : IVec S32x1024 1) : IVec S_ 1 :=
  let main_c_6 : IVec S_ 1 := constantI S_ 1 1#1
  let main_v38 : IVec S_ 1 := (fun x v => Host.reduce IntOp.andi x v reducesTo_S32x1024_S_d0_1 h_S_) main_v37 main_c_6
  let main_v39 : IVec S32 32 := iotaInDim S32 32 0
  let main_v40 : IVec S32x1x1 32 := broadcastInDim S32x1x1 ![0] bcast_S32_S32x1x1_0 main_v39
  let main_v41 : IVec S32x1024x20 32 := (extractStridedSlice S32x1024x20 ![0, 0, 0] · slices_S32x1024x21_S32x1024x20_0_0_0) main_indices
  let main_c_7 : IVec S_ 32 := constantI S_ 32 0#32
  let main_v42 : IVec S32x1x1 32 := broadcastInDim S32x1x1 ![] bcast_S_S32x1x1 main_c_7
  let main_v43 : IVec S32x1x1 1 := cmpi .slt main_v40 main_v42
  let main_c_8 : IVec S_ 32 := constantI S_ 32 32#32
  let main_v44 : IVec S32x1x1 32 := broadcastInDim S32x1x1 ![] bcast_S_S32x1x1 main_c_8
  let main_v45 : IVec S32x1x1 32 := addi main_v40 main_v44
  let main_v46 : IVec S32x1x1 32 := select main_v43 main_v45 main_v40
  let main_c_9 : IVec S_ 32 := constantI S_ 32 0#32
  let main_v47 : IVec S32x1024x20 32 := broadcastInDim S32x1024x20 ![] bcast_S_S32x1024x20 main_c_9
  let main_v48 : IVec S32x1024x20 1 := cmpi .slt main_v41 main_v47
  let main_c_10 : IVec S_ 32 := constantI S_ 32 1024#32
  let main_v49 : IVec S32x1024x20 32 := broadcastInDim S32x1024x20 ![] bcast_S_S32x1024x20 main_c_10
  let main_v50 : IVec S32x1024x20 32 := addi main_v41 main_v49
  let main_v51 : IVec S32x1024x20 32 := select main_v48 main_v50 main_v41
  let main_v52 : IVec S32x1024x20 32 := broadcastInDim S32x1024x20 ![0, 1, 2] bcast_S32x1x1_S32x1024x20_0_1_2 main_v46
  let main_v53 : IVec S32x1024x20x1 32 := broadcastInDim S32x1024x20x1 ![0, 1, 2] bcast_S32x1024x20_S32x1024x20x1_0_1_2 main_v52
  let main_v54 : IVec S32x1024x20x1 32 := broadcastInDim S32x1024x20x1 ![0, 1, 2] bcast_S32x1024x20_S32x1024x20x1_0_1_2 main_v51
  let main_v55 : IVec S32x1024x20x2 32 := (fun a b => concatenate S32x1024x20x2 3 [⟨S32x1024x20x1, a⟩, ⟨S32x1024x20x1, b⟩] concatenates_S32x1024x20x1_S32x1024x20x1_S32x1024x20x2_d3) main_v53 main_v54
  let main_v56 : FVec F S32x1024x20x3 .f32 := (fun x i => Host.gather gather_S32x1024x3_S32x1024x20x2_S32x1024x20x3_3_01_n_n_01_3_113 x i) main_v9 main_v55
  fn_part3 (F := F) main_arg1 main_v8 main_v9 main_v38 main_v56

def fn_part1 {F : FTy → Type} [FloatOps F] (main_arg1 : FVec F S32768x3x3 .f32) (main_v8 : IVec S_ 1) (main_v9 : FVec F S32x1024x3 .f32) (main_v16 : FVec F S32x1024x1024 .f32) (main_v17 : FVec F S32x1024x1024 .f32) (main_cst_3 : FVec F S_ .f32) : IVec S_ 1 :=
  let main_v18 : FVec F S32x1024x1024 .f32 := broadcastInDim S32x1024x1024 ![] bcast_S_S32x1024x1024 main_cst_3
  let main_v19 : FVec F S32x1024x1024 .f32 := mulf main_v18 main_v17
  let main_v20 : FVec F S32x1024x1024 .f32 := subf main_v16 main_v19
  let main_v21 : IVec S1024x1024 32 := iotaInDim S1024x1024 32 0
  let main_v22 : IVec S1024x1024 32 := iotaInDim S1024x1024 32 1
  let main_c_4 : IVec S_ 32 := constantI S_ 32 0#32
  let main_v23 : IVec S1024x1024 32 := broadcastInDim S1024x1024 ![] bcast_S_S1024x1024 main_c_4
  let main_v24 : IVec S1024x1024 32 := addi main_v21 main_v23
  let main_v25 : IVec S1024x1024 1 := cmpi .eq main_v24 main_v22
  let main_v26 : FVec F S1024x1024 .f32 := uitofp .f32 main_v25
  let main_v27 : FVec F S1x1024x1024 .f32 := broadcastInDim S1x1024x1024 ![1, 2] bcast_S1024x1024_S1x1024x1024_1_2 main_v26
  let main_cst_5 : FVec F S_ .f32 := constant S_ .f32 0x501502F9#32
  let main_v28 : FVec F S1x1024x1024 .f32 := broadcastInDim S1x1024x1024 ![] bcast_S_S1x1024x1024 main_cst_5
  let main_v29 : FVec F S1x1024x1024 .f32 := mulf main_v27 main_v28
  let main_v30 : FVec F S32x1024x1024 .f32 := broadcastInDim S32x1024x1024 ![0, 1, 2] bcast_S1x1024x1024_S32x1024x1024_0_1_2 main_v29
  let main_v31 : FVec F S32x1024x1024 .f32 := addf main_v20 main_v30
  let main_v32 : FVec F S32x1024x1024 .f32 := Host.negf main_v31
  let main_values : FVec F S32x1024x21 .f32 := (fun x => (Host.topK S32x1024x21 2 (FloatOps.cmpfTotal .gt) x sliceFits_S32x1024x1024_S32x1024x21).1) main_v32
  let main_indices : IVec S32x1024x21 32 := (fun x => (Host.topK S32x1024x21 2 (FloatOps.cmpfTotal .gt) x sliceFits_S32x1024x1024_S32x1024x21).2) main_v32
  let main_v33 : FVec F S32x1024x1 .f32 := (extractStridedSlice S32x1024x1 ![0, 0, 19] · slices_S32x1024x21_S32x1024x1_0_0_19) main_values
  let main_v34 : FVec F S32x1024 .f32 := shapeCast S32x1024 main_v33 shapeCasts_S32x1024x1_S32x1024
  let main_v35 : FVec F S32x1024x1 .f32 := (extractStridedSlice S32x1024x1 ![0, 0, 20] · slices_S32x1024x21_S32x1024x1_0_0_20) main_values
  let main_v36 : FVec F S32x1024 .f32 := shapeCast S32x1024 main_v35 shapeCasts_S32x1024x1_S32x1024
  let main_v37 : IVec S32x1024 1 := cmpf .ogt main_v34 main_v36
  fn_part2 (F := F) main_arg1 main_v8 main_v9 main_indices main_v37

def fn {F : FTy → Type} [FloatOps F] (main_arg0 : FVec F S32768x3 .f32) (main_arg1 : FVec F S32768x3x3 .f32) (main_arg2 : FVec F S125x1x32 .f32) (main_arg3 : FVec F S1x32 .f32) (main_arg4 : FVec F S32 .f32) (main_arg5 : FVec F S32 .f32) (main_arg6 : FVec F S32 .f32) (main_arg7 : FVec F S32x256 .f32) (main_arg8 : FVec F S256 .f32) (main_arg9 : FVec F S256x40 .f32) (main_arg10 : FVec F S40 .f32) : IVec S_ 1 :=
  let main_v0 : FVec F S32768x3 .f32 := Host.absf main_arg0
  let main_cst : FVec F S_ .f32 := constant S_ .f32 0x7F800000#32
  let main_v1 : FVec F S32768x3 .f32 := broadcastInDim S32768x3 ![] bcast_S_S32768x3 main_cst
  let main_v2 : IVec S32768x3 1 := cmpf .olt main_v0 main_v1
  let main_c : IVec S_ 1 := constantI S_ 1 1#1
  let main_v3 : IVec S_ 1 := (fun x v => Host.reduce IntOp.andi x v reducesTo_S32768x3_S_d0_1 h_S_) main_v2 main_c
  let main_v4 : FVec F S32768x3x3 .f32 := Host.absf main_arg1
  let main_cst_0 : FVec F S_ .f32 := constant S_ .f32 0x7F800000#32
  let main_v5 : FVec F S32768x3x3 .f32 := broadcastInDim S32768x3x3 ![] bcast_S_S32768x3x3 main_cst_0
  let main_v6 : IVec S32768x3x3 1 := cmpf .olt main_v4 main_v5
  let main_c_1 : IVec S_ 1 := constantI S_ 1 1#1
  let main_v7 : IVec S_ 1 := (fun x v => Host.reduce IntOp.andi x v reducesTo_S32768x3x3_S_d0_1_2 h_S_) main_v6 main_c_1
  let main_v8 : IVec S_ 1 := andi main_v3 main_v7
  let main_v9 : FVec F S32x1024x3 .f32 := shapeCast S32x1024x3 main_arg0 shapeCasts_S32768x3_S32x1024x3
  let main_v10 : FVec F S32x1024x3 .f32 := mulf main_v9 main_v9
  let main_cst_2 : FVec F S_ .f32 := constant S_ .f32 0x00000000#32
  let main_v11 : FVec F S32x1024 .f32 := (fun x v => Host.reduceAdd x v reducesTo_S32x1024x3_S32x1024_d2 h_S_) main_v10 main_cst_2
  let main_v12 : FVec F S32x1024x1 .f32 := broadcastInDim S32x1024x1 ![0, 1] bcast_S32x1024_S32x1024x1_0_1 main_v11
  let main_v13 : FVec F S32x1x1024 .f32 := broadcastInDim S32x1x1024 ![0, 2] bcast_S32x1024_S32x1x1024_0_2 main_v11
  let main_v14 : FVec F S32x1024x1024 .f32 := broadcastInDim S32x1024x1024 ![0, 1, 2] bcast_S32x1024x1_S32x1024x1024_0_1_2 main_v12
  let main_v15 : FVec F S32x1024x1024 .f32 := broadcastInDim S32x1024x1024 ![0, 1, 2] bcast_S32x1x1024_S32x1024x1024_0_1_2 main_v13
  let main_v16 : FVec F S32x1024x1024 .f32 := addf main_v14 main_v15
  let main_v17 : FVec F S32x1024x1024 .f32 := (fun l r => Host.dotGeneral dot_S32x1024x3_S32x1024x3_S32x1024x1024_2_2_1_1_0_0 none l r) main_v9 main_v9
  let main_cst_3 : FVec F S_ .f32 := constant S_ .f32 0x40000000#32
  fn_part1 (F := F) main_arg1 main_v8 main_v9 main_v16 main_v17 main_cst_3
-- ==== Kernel.lean ====
abbrev S32768x3 : Shape := ⟨2, ![32768, 3]⟩
abbrev S32768x3x3 : Shape := ⟨3, ![32768, 3, 3]⟩
abbrev S125x1x32 : Shape := ⟨3, ![125, 1, 32]⟩
abbrev S1x32 : Shape := ⟨2, ![1, 32]⟩
abbrev S32 : Shape := ⟨1, ![32]⟩
abbrev S32x256 : Shape := ⟨2, ![32, 256]⟩
abbrev S256 : Shape := ⟨1, ![256]⟩
abbrev S256x40 : Shape := ⟨2, ![256, 40]⟩
abbrev S40 : Shape := ⟨1, ![40]⟩
abbrev S32x1024x3 : Shape := ⟨3, ![32, 1024, 3]⟩
abbrev S32x1024x9 : Shape := ⟨3, ![32, 1024, 9]⟩
abbrev S32x1024x1 : Shape := ⟨3, ![32, 1024, 1]⟩
abbrev S1x1024x3 : Shape := ⟨3, ![1, 1024, 3]⟩
abbrev S1x1024x9 : Shape := ⟨3, ![1, 1024, 9]⟩
abbrev S1x1024x1 : Shape := ⟨3, ![1, 1024, 1]⟩
abbrev S1024x3 : Shape := ⟨2, ![1024, 3]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1024x9 : Shape := ⟨2, ![1024, 9]⟩
abbrev S125x32 : Shape := ⟨2, ![125, 32]⟩
abbrev S32x1024x32 : Shape := ⟨3, ![32, 1024, 32]⟩
abbrev S1x1024x32 : Shape := ⟨3, ![1, 1024, 32]⟩
abbrev S1024x125 : Shape := ⟨2, ![1024, 125]⟩
abbrev S1024x32 : Shape := ⟨2, ![1024, 32]⟩
abbrev S32768x32 : Shape := ⟨2, ![32768, 32]⟩
abbrev S1x256 : Shape := ⟨2, ![1, 256]⟩
abbrev S1x40 : Shape := ⟨2, ![1, 40]⟩
abbrev S32x40 : Shape := ⟨2, ![32, 40]⟩
abbrev S32x32 : Shape := ⟨2, ![32, 32]⟩
abbrev S32x1 : Shape := ⟨2, ![32, 1]⟩

abbrev nBuf : Space → Nat
  | .hbm => 26
  | .vmem => 33
  | .smem => 0
  | _ => 0

abbrev bufTy : (tb : Table) → Fin (tcTables nBuf tb) → BufTy
  | .hbm, ⟨0, _⟩ => ⟨S32768x3, .f32⟩
  | .hbm, ⟨1, _⟩ => ⟨S32768x3x3, .f32⟩
  | .hbm, ⟨2, _⟩ => ⟨S125x1x32, .f32⟩
  | .hbm, ⟨3, _⟩ => ⟨S1x32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32x256, .f32⟩
  | .hbm, ⟨8, _⟩ => ⟨S256, .f32⟩
  | .hbm, ⟨9, _⟩ => ⟨S256x40, .f32⟩
  | .hbm, ⟨10, _⟩ => ⟨S40, .f32⟩
  | .hbm, ⟨11, _⟩ => ⟨S32x1024x3, .f32⟩
  | .hbm, ⟨12, _⟩ => ⟨S32x1024x9, .f32⟩
  | .hbm, ⟨13, _⟩ => ⟨S32x1024x3, .f32⟩
  | .hbm, ⟨14, _⟩ => ⟨S32x1024x3, .f32⟩
  | .hbm, ⟨15, _⟩ => ⟨S32x1024x1, .f32⟩
  | .hbm, ⟨16, _⟩ => ⟨S32x1024x9, .f32⟩
  | .hbm, ⟨17, _⟩ => ⟨S125x32, .f32⟩
  | .hbm, ⟨18, _⟩ => ⟨S1x32, .f32⟩
  | .hbm, ⟨19, _⟩ => ⟨S32x1024x32, .f32⟩
  | .hbm, ⟨20, _⟩ => ⟨S32768x32, .f32⟩
  | .hbm, ⟨21, _⟩ => ⟨S1x32, .f32⟩
  | .hbm, ⟨22, _⟩ => ⟨S1x32, .f32⟩
  | .hbm, ⟨23, _⟩ => ⟨S1x256, .f32⟩
  | .hbm, ⟨24, _⟩ => ⟨S1x40, .f32⟩
  | .hbm, ⟨25, _⟩ => ⟨S32x40, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x9, .f32⟩
  | .local _ .vmem, ⟨3, _⟩ => ⟨S1x1024x9, .f32⟩
  | .local _ .vmem, ⟨4, _⟩ => ⟨S1x1024x3, .f32⟩
  | .local _ .vmem, ⟨5, _⟩ => ⟨S1x1024x3, .f32⟩
  | .local _ .vmem, ⟨6, _⟩ => ⟨S1x1024x3, .f32⟩
  | .local _ .vmem, ⟨7, _⟩ => ⟨S1x1024x3, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x3, .f32⟩
  | .local _ .vmem, ⟨11, _⟩ => ⟨S1x1024x3, .f32⟩
  | .local _ .vmem, ⟨12, _⟩ => ⟨S1x1024x9, .f32⟩
  | .local _ .vmem, ⟨13, _⟩ => ⟨S1x1024x9, .f32⟩
  | .local _ .vmem, ⟨14, _⟩ => ⟨S1x1024x3, .f32⟩
  | .local _ .vmem, ⟨15, _⟩ => ⟨S1x1024x3, .f32⟩
  | .local _ .vmem, ⟨16, _⟩ => ⟨S1x1024x3, .f32⟩
  | .local _ .vmem, ⟨17, _⟩ => ⟨S1x1024x3, .f32⟩
  | .local _ .vmem, ⟨18, _⟩ => ⟨S1x1024x1, .f32⟩
  | .local _ .vmem, ⟨19, _⟩ => ⟨S1x1024x1, .f32⟩
  | .local _ .vmem, ⟨20, _⟩ => ⟨S125x32, .f32⟩
  | .local _ .vmem, ⟨21, _⟩ => ⟨S1x32, .f32⟩
  | .local _ .vmem, ⟨22, _⟩ => ⟨S1x32, .f32⟩
  | .local _ .vmem, ⟨23, _⟩ => ⟨S1x1024x32, .f32⟩
  | .local _ .vmem, ⟨24, _⟩ => ⟨S1x1024x32, .f32⟩
  | .local _ .vmem, ⟨25, _⟩ => ⟨S32768x32, .f32⟩
  | .local _ .vmem, ⟨26, _⟩ => ⟨S1x32, .f32⟩
  | .local _ .vmem, ⟨27, _⟩ => ⟨S1x32, .f32⟩
  | .local _ .vmem, ⟨28, _⟩ => ⟨S32x256, .f32⟩
  | .local _ .vmem, ⟨29, _⟩ => ⟨S1x256, .f32⟩
  | .local _ .vmem, ⟨30, _⟩ => ⟨S256x40, .f32⟩
  | .local _ .vmem, ⟨31, _⟩ => ⟨S1x40, .f32⟩
  | .local _ .vmem, ⟨32, _⟩ => ⟨S32x40, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24
abbrev cc2_sem0_0 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32

abbrev nD : Nat := 1
abbrev τ : Topo := Topo.v7x

variable {F : FTy → Type} [BitOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S125x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x1024x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := .none

abbrev stage2_0 : Fin 1 → Memref sig .tc .vmem S32768x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S256x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S32x40 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
-- ==== KernelIdeal.lean ====
variable {F : FTy → Type} [FloatOps F]
-- ==== ReferenceIdeal.lean ====
abbrev S32768x3 : Shape := ⟨2, ![32768, 3]⟩
abbrev S32768x3x3 : Shape := ⟨3, ![32768, 3, 3]⟩
abbrev S125x1x32 : Shape := ⟨3, ![125, 1, 32]⟩
abbrev S1x32 : Shape := ⟨2, ![1, 32]⟩
abbrev S32 : Shape := ⟨1, ![32]⟩
abbrev S32x256 : Shape := ⟨2, ![32, 256]⟩
abbrev S256 : Shape := ⟨1, ![256]⟩
abbrev S256x40 : Shape := ⟨2, ![256, 40]⟩
abbrev S40 : Shape := ⟨1, ![40]⟩
abbrev S32x1024x3 : Shape := ⟨3, ![32, 1024, 3]⟩
abbrev S_ : Shape := ⟨0, ![]⟩
abbrev S32x1024 : Shape := ⟨2, ![32, 1024]⟩
abbrev S32x1024x1 : Shape := ⟨3, ![32, 1024, 1]⟩
abbrev S32x1x1024 : Shape := ⟨3, ![32, 1, 1024]⟩
abbrev S32x1024x1024 : Shape := ⟨3, ![32, 1024, 1024]⟩
abbrev S1024x1024 : Shape := ⟨2, ![1024, 1024]⟩
abbrev S1x1024x1024 : Shape := ⟨3, ![1, 1024, 1024]⟩
abbrev S32x1024x20 : Shape := ⟨3, ![32, 1024, 20]⟩
abbrev S32x1x1 : Shape := ⟨3, ![32, 1, 1]⟩
abbrev S32x1024x20x1 : Shape := ⟨4, ![32, 1024, 20, 1]⟩
abbrev S32x1024x20x2 : Shape := ⟨4, ![32, 1024, 20, 2]⟩
abbrev S32x1024x20x3 : Shape := ⟨4, ![32, 1024, 20, 3]⟩
abbrev S32x1024x1x3 : Shape := ⟨4, ![32, 1024, 1, 3]⟩
abbrev S32768x20x3 : Shape := ⟨3, ![32768, 20, 3]⟩
abbrev S32768x10x3 : Shape := ⟨3, ![32768, 10, 3]⟩
abbrev S32768x20x1 : Shape := ⟨3, ![32768, 20, 1]⟩
abbrev S32768x20 : Shape := ⟨2, ![32768, 20]⟩
abbrev S32768 : Shape := ⟨1, ![32768]⟩
abbrev S32768x20x2 : Shape := ⟨3, ![32768, 20, 2]⟩
abbrev S32768x1x1 : Shape := ⟨3, ![32768, 1, 1]⟩
abbrev S32768x1x3 : Shape := ⟨3, ![32768, 1, 3]⟩
abbrev S125x32 : Shape := ⟨2, ![125, 32]⟩
abbrev S32768x32 : Shape := ⟨2, ![32768, 32]⟩
abbrev S32768x1 : Shape := ⟨2, ![32768, 1]⟩
abbrev S32x1024x32 : Shape := ⟨3, ![32, 1024, 32]⟩
abbrev S32x32 : Shape := ⟨2, ![32, 32]⟩
abbrev S1x256 : Shape := ⟨2, ![1, 256]⟩
abbrev S32x40 : Shape := ⟨2, ![32, 40]⟩
abbrev S1x40 : Shape := ⟨2, ![1, 40]⟩
abbrev S32x1024x9 : Shape := ⟨3, ![32, 1024, 9]⟩
abbrev S32x1 : Shape := ⟨2, ![32, 1]⟩

abbrev nBuf : Space → Nat
  | .hbm => 495
  | .vmem => 0
  | .smem => 0
  | _ => 0

abbrev hbmTy0_0 (i : Nat) : BufTy := match i % 128 with
  | 0 => ⟨S32768x3, .f32⟩
  | 1 => ⟨S32768x3x3, .f32⟩
  | 2 => ⟨S125x1x32, .f32⟩
  | 3 => ⟨S1x32, .f32⟩
  | 4 => ⟨S32, .f32⟩
  | 5 => ⟨S32, .f32⟩
  | 6 => ⟨S32, .f32⟩
  | 7 => ⟨S32x256, .f32⟩
  | 8 => ⟨S256, .f32⟩
  | 9 => ⟨S256x40, .f32⟩
  | 10 => ⟨S40, .f32⟩
  | 11 => ⟨S32x1024x3, .f32⟩
  | 12 => ⟨S32x1024x3, .f32⟩
  | 13 => ⟨S_, .f32⟩
  | 14 => ⟨S32x1024, .f32⟩
  | 15 => ⟨S32x1024x1, .f32⟩
  | 16 => ⟨S32x1x1024, .f32⟩
  | 17 => ⟨S32x1024x1024, .f32⟩
  | 18 => ⟨S32x1024x1024, .f32⟩
  | 19 => ⟨S32x1024x1024, .f32⟩
  | 20 => ⟨S32x1024x1024, .f32⟩
  | 21 => ⟨S_, .f32⟩
  | 22 => ⟨S32x1024x1024, .f32⟩
  | 23 => ⟨S32x1024x1024, .f32⟩
  | 24 => ⟨S32x1024x1024, .f32⟩
  | 25 => ⟨S1024x1024, .i32⟩
  | 26 => ⟨S1024x1024, .i32⟩
  | 27 => ⟨S_, .i32⟩
  | 28 => ⟨S1024x1024, .i32⟩
  | 29 => ⟨S1024x1024, .i32⟩
  | 30 => ⟨S1024x1024, .i1⟩
  | 31 => ⟨S1024x1024, .f32⟩
  | 32 => ⟨S1x1024x1024, .f32⟩
  | 33 => ⟨S_, .f32⟩
  | 34 => ⟨S1x1024x1024, .f32⟩
  | 35 => ⟨S1x1024x1024, .f32⟩
  | 36 => ⟨S32x1024x1024, .f32⟩
  | 37 => ⟨S32x1024x1024, .f32⟩
  | 38 => ⟨S32x1024x1024, .f32⟩
  | 39 => ⟨S32x1024x20, .f32⟩
  | 40 => ⟨S32x1024x20, .i32⟩
  | 41 => ⟨S32, .i32⟩
  | 42 => ⟨S32x1x1, .i32⟩
  | 43 => ⟨S_, .i32⟩
  | 44 => ⟨S32x1x1, .i32⟩
  | 45 => ⟨S32x1x1, .i1⟩
  | 46 => ⟨S_, .i32⟩
  | 47 => ⟨S32x1x1, .i32⟩
  | 48 => ⟨S32x1x1, .i32⟩
  | 49 => ⟨S32x1x1, .i32⟩
  | 50 => ⟨S_, .i32⟩
  | 51 => ⟨S32x1024x20, .i32⟩
  | 52 => ⟨S32x1024x20, .i1⟩
  | 53 => ⟨S_, .i32⟩
  | 54 => ⟨S32x1024x20, .i32⟩
  | 55 => ⟨S32x1024x20, .i32⟩
  | 56 => ⟨S32x1024x20, .i32⟩
  | 57 => ⟨S32x1024x20, .i32⟩
  | 58 => ⟨S32x1024x20x1, .i32⟩
  | 59 => ⟨S32x1024x20x1, .i32⟩
  | 60 => ⟨S32x1024x20x2, .i32⟩
  | 61 => ⟨S32x1024x20x3, .f32⟩
  | 62 => ⟨S32x1024x1x3, .f32⟩
  | 63 => ⟨S32x1024x20x3, .f32⟩
  | 64 => ⟨S32x1024x20x3, .f32⟩
  | 65 => ⟨S32768x20x3, .f32⟩
  | 66 => ⟨S32768x10x3, .f32⟩
  | 67 => ⟨S32768x3x3, .f32⟩
  | 68 => ⟨S32768x20x3, .f32⟩
  | 69 => ⟨S32768x20x1, .f32⟩
  | 70 => ⟨S32768x20, .f32⟩
  | 71 => ⟨S_, .f32⟩
  | 72 => ⟨S32768, .f32⟩
  | 73 => ⟨S32768, .f32⟩
  | 74 => ⟨S32768x20x2, .f32⟩
  | 75 => ⟨S32768x20x1, .f32⟩
  | 76 => ⟨S32768x1x1, .f32⟩
  | 77 => ⟨S32768x20x1, .f32⟩
  | 78 => ⟨S32768x20x1, .f32⟩
  | 79 => ⟨S32768x20x3, .f32⟩
  | 80 => ⟨S32768x20x3, .f32⟩
  | 81 => ⟨S_, .f32⟩
  | 82 => ⟨S32768, .f32⟩
  | 83 => ⟨S32768x1x1, .f32⟩
  | 84 => ⟨S32768x20x3, .f32⟩
  | 85 => ⟨S32768x20x3, .f32⟩
  | 86 => ⟨S_, .f32⟩
  | 87 => ⟨S32768x20x3, .f32⟩
  | 88 => ⟨S32768x20x3, .f32⟩
  | 89 => ⟨S_, .f32⟩
  | 90 => ⟨S32768x20x3, .f32⟩
  | 91 => ⟨S32768x20x3, .f32⟩
  | 92 => ⟨S32768x1x3, .f32⟩
  | 93 => ⟨S32768x3, .f32⟩
  | 94 => ⟨S_, .f32⟩
  | 95 => ⟨S32768x3, .f32⟩
  | 96 => ⟨S32768x3, .f32⟩
  | 97 => ⟨S32768x3, .f32⟩
  | 98 => ⟨S32768x3, .f32⟩
  | 99 => ⟨S32768x3, .i32⟩
  | 100 => ⟨S_, .f32⟩
  | 101 => ⟨S32768x3, .f32⟩
  | 102 => ⟨S32768x3, .f32⟩
  | 103 => ⟨S_, .i32⟩
  | 104 => ⟨S_, .i32⟩
  | 105 => ⟨S_, .i32⟩
  | 106 => ⟨S32768x3, .i32⟩
  | 107 => ⟨S32768x3, .i32⟩
  | 108 => ⟨S_, .i32⟩
  | 109 => ⟨S32768x3, .i32⟩
  | 110 => ⟨S32768x3, .i32⟩
  | 111 => ⟨S_, .i32⟩
  | 112 => ⟨S32768x3, .i32⟩
  | 113 => ⟨S32768x3, .i32⟩
  | 114 => ⟨S_, .i32⟩
  | 115 => ⟨S_, .i32⟩
  | 116 => ⟨S_, .i32⟩
  | 117 => ⟨S32768x3, .i32⟩
  | 118 => ⟨S32768x3, .i32⟩
  | 119 => ⟨S_, .i32⟩
  | 120 => ⟨S32768x3, .i32⟩
  | 121 => ⟨S32768x3, .i32⟩
  | 122 => ⟨S125x32, .f32⟩
  | 123 => ⟨S_, .f32⟩
  | 124 => ⟨S32768x32, .f32⟩
  | 125 => ⟨S32768x1, .f32⟩
  | 126 => ⟨S32768, .f32⟩
  | 127 => ⟨S32768x1, .f32⟩
  | _ => ⟨S32768x3, .f32⟩

abbrev hbmTy0_1 (i : Nat) : BufTy := match i % 128 with
  | 0 => ⟨S32768, .f32⟩
  | 1 => ⟨S32768, .f32⟩
  | 2 => ⟨S32768x1, .f32⟩
  | 3 => ⟨S32768, .f32⟩
  | 4 => ⟨S32768, .f32⟩
  | 5 => ⟨S32768x1, .i32⟩
  | 6 => ⟨S32768, .i32⟩
  | 7 => ⟨S32768x1, .i32⟩
  | 8 => ⟨S32768, .i32⟩
  | 9 => ⟨S_, .i32⟩
  | 10 => ⟨S32768, .i32⟩
  | 11 => ⟨S32768, .i32⟩
  | 12 => ⟨S32768, .i32⟩
  | 13 => ⟨S32768x1, .i32⟩
  | 14 => ⟨S32768, .i32⟩
  | 15 => ⟨S_, .i32⟩
  | 16 => ⟨S32768, .i32⟩
  | 17 => ⟨S32768, .i32⟩
  | 18 => ⟨S32768, .i32⟩
  | 19 => ⟨S32768x1, .f32⟩
  | 20 => ⟨S_, .i32⟩
  | 21 => ⟨S32768, .i32⟩
  | 22 => ⟨S32768, .i1⟩
  | 23 => ⟨S_, .i32⟩
  | 24 => ⟨S32768, .i32⟩
  | 25 => ⟨S32768, .i32⟩
  | 26 => ⟨S32768, .i32⟩
  | 27 => ⟨S32768x1, .i32⟩
  | 28 => ⟨S32768x32, .f32⟩
  | 29 => ⟨S32768x32, .f32⟩
  | 30 => ⟨S32768x32, .f32⟩
  | 31 => ⟨S32768x32, .f32⟩
  | 32 => ⟨S32768x1, .f32⟩
  | 33 => ⟨S32768, .f32⟩
  | 34 => ⟨S32768x1, .f32⟩
  | 35 => ⟨S32768, .f32⟩
  | 36 => ⟨S32768, .f32⟩
  | 37 => ⟨S32768x1, .f32⟩
  | 38 => ⟨S32768, .f32⟩
  | 39 => ⟨S32768, .f32⟩
  | 40 => ⟨S32768x1, .i32⟩
  | 41 => ⟨S32768, .i32⟩
  | 42 => ⟨S32768x1, .i32⟩
  | 43 => ⟨S32768, .i32⟩
  | 44 => ⟨S_, .i32⟩
  | 45 => ⟨S32768, .i32⟩
  | 46 => ⟨S32768, .i32⟩
  | 47 => ⟨S32768, .i32⟩
  | 48 => ⟨S32768x1, .i32⟩
  | 49 => ⟨S32768, .i32⟩
  | 50 => ⟨S_, .i32⟩
  | 51 => ⟨S32768, .i32⟩
  | 52 => ⟨S32768, .i32⟩
  | 53 => ⟨S32768, .i32⟩
  | 54 => ⟨S32768x1, .f32⟩
  | 55 => ⟨S_, .i32⟩
  | 56 => ⟨S32768, .i32⟩
  | 57 => ⟨S32768, .i1⟩
  | 58 => ⟨S_, .i32⟩
  | 59 => ⟨S32768, .i32⟩
  | 60 => ⟨S32768, .i32⟩
  | 61 => ⟨S32768, .i32⟩
  | 62 => ⟨S32768x1, .i32⟩
  | 63 => ⟨S32768x32, .f32⟩
  | 64 => ⟨S32768x32, .f32⟩
  | 65 => ⟨S32768x32, .f32⟩
  | 66 => ⟨S32768x32, .f32⟩
  | 67 => ⟨S32768x1, .f32⟩
  | 68 => ⟨S32768, .f32⟩
  | 69 => ⟨S32768x1, .f32⟩
  | 70 => ⟨S32768, .f32⟩
  | 71 => ⟨S32768, .f32⟩
  | 72 => ⟨S32768x1, .f32⟩
  | 73 => ⟨S32768, .f32⟩
  | 74 => ⟨S32768, .f32⟩
  | 75 => ⟨S32768x1, .i32⟩
  | 76 => ⟨S32768, .i32⟩
  | 77 => ⟨S32768x1, .i32⟩
  | 78 => ⟨S32768, .i32⟩
  | 79 => ⟨S_, .i32⟩
  | 80 => ⟨S32768, .i32⟩
  | 81 => ⟨S32768, .i32⟩
  | 82 => ⟨S32768, .i32⟩
  | 83 => ⟨S32768x1, .i32⟩
  | 84 => ⟨S32768, .i32⟩
  | 85 => ⟨S_, .i32⟩
  | 86 => ⟨S32768, .i32⟩
  | 87 => ⟨S32768, .i32⟩
  | 88 => ⟨S32768, .i32⟩
  | 89 => ⟨S32768x1, .f32⟩
  | 90 => ⟨S_, .i32⟩
  | 91 => ⟨S32768, .i32⟩
  | 92 => ⟨S32768, .i1⟩
  | 93 => ⟨S_, .i32⟩
  | 94 => ⟨S32768, .i32⟩
  | 95 => ⟨S32768, .i32⟩
  | 96 => ⟨S32768, .i32⟩
  | 97 => ⟨S32768x1, .i32⟩
  | 98 => ⟨S32768x32, .f32⟩
  | 99 => ⟨S32768x32, .f32⟩
  | 100 => ⟨S32768x32, .f32⟩
  | 101 => ⟨S32768x32, .f32⟩
  | 102 => ⟨S32768x1, .f32⟩
  | 103 => ⟨S32768, .f32⟩
  | 104 => ⟨S32768x1, .f32⟩
  | 105 => ⟨S32768, .f32⟩
  | 106 => ⟨S32768, .f32⟩
  | 107 => ⟨S32768x1, .f32⟩
  | 108 => ⟨S32768, .f32⟩
  | 109 => ⟨S32768, .f32⟩
  | 110 => ⟨S32768x1, .i32⟩
  | 111 => ⟨S32768, .i32⟩
  | 112 => ⟨S32768x1, .i32⟩
  | 113 => ⟨S32768, .i32⟩
  | 114 => ⟨S_, .i32⟩
  | 115 => ⟨S32768, .i32⟩
  | 116 => ⟨S32768, .i32⟩
  | 117 => ⟨S32768, .i32⟩
  | 118 => ⟨S32768x1, .i32⟩
  | 119 => ⟨S32768, .i32⟩
  | 120 => ⟨S_, .i32⟩
  | 121 => ⟨S32768, .i32⟩
  | 122 => ⟨S32768, .i32⟩
  | 123 => ⟨S32768, .i32⟩
  | 124 => ⟨S32768x1, .f32⟩
  | 125 => ⟨S_, .i32⟩
  | 126 => ⟨S32768, .i32⟩
  | 127 => ⟨S32768, .i1⟩
  | _ => ⟨S32768x3, .f32⟩

abbrev hbmTy0_2 (i : Nat) : BufTy := match i % 128 with
  | 0 => ⟨S_, .i32⟩
  | 1 => ⟨S32768, .i32⟩
  | 2 => ⟨S32768, .i32⟩
  | 3 => ⟨S32768, .i32⟩
  | 4 => ⟨S32768x1, .i32⟩
  | 5 => ⟨S32768x32, .f32⟩
  | 6 => ⟨S32768x32, .f32⟩
  | 7 => ⟨S32768x32, .f32⟩
  | 8 => ⟨S32768x32, .f32⟩
  | 9 => ⟨S32768x1, .f32⟩
  | 10 => ⟨S32768, .f32⟩
  | 11 => ⟨S32768x1, .f32⟩
  | 12 => ⟨S32768, .f32⟩
  | 13 => ⟨S32768, .f32⟩
  | 14 => ⟨S32768x1, .f32⟩
  | 15 => ⟨S32768, .f32⟩
  | 16 => ⟨S32768, .f32⟩
  | 17 => ⟨S32768x1, .i32⟩
  | 18 => ⟨S32768, .i32⟩
  | 19 => ⟨S32768x1, .i32⟩
  | 20 => ⟨S32768, .i32⟩
  | 21 => ⟨S_, .i32⟩
  | 22 => ⟨S32768, .i32⟩
  | 23 => ⟨S32768, .i32⟩
  | 24 => ⟨S32768, .i32⟩
  | 25 => ⟨S32768x1, .i32⟩
  | 26 => ⟨S32768, .i32⟩
  | 27 => ⟨S_, .i32⟩
  | 28 => ⟨S32768, .i32⟩
  | 29 => ⟨S32768, .i32⟩
  | 30 => ⟨S32768, .i32⟩
  | 31 => ⟨S32768x1, .f32⟩
  | 32 => ⟨S_, .i32⟩
  | 33 => ⟨S32768, .i32⟩
  | 34 => ⟨S32768, .i1⟩
  | 35 => ⟨S_, .i32⟩
  | 36 => ⟨S32768, .i32⟩
  | 37 => ⟨S32768, .i32⟩
  | 38 => ⟨S32768, .i32⟩
  | 39 => ⟨S32768x1, .i32⟩
  | 40 => ⟨S32768x32, .f32⟩
  | 41 => ⟨S32768x32, .f32⟩
  | 42 => ⟨S32768x32, .f32⟩
  | 43 => ⟨S32768x32, .f32⟩
  | 44 => ⟨S32768x1, .f32⟩
  | 45 => ⟨S32768, .f32⟩
  | 46 => ⟨S32768x1, .f32⟩
  | 47 => ⟨S32768, .f32⟩
  | 48 => ⟨S32768, .f32⟩
  | 49 => ⟨S32768x1, .f32⟩
  | 50 => ⟨S32768, .f32⟩
  | 51 => ⟨S32768, .f32⟩
  | 52 => ⟨S32768x1, .i32⟩
  | 53 => ⟨S32768, .i32⟩
  | 54 => ⟨S32768x1, .i32⟩
  | 55 => ⟨S32768, .i32⟩
  | 56 => ⟨S_, .i32⟩
  | 57 => ⟨S32768, .i32⟩
  | 58 => ⟨S32768, .i32⟩
  | 59 => ⟨S32768, .i32⟩
  | 60 => ⟨S32768x1, .i32⟩
  | 61 => ⟨S32768, .i32⟩
  | 62 => ⟨S_, .i32⟩
  | 63 => ⟨S32768, .i32⟩
  | 64 => ⟨S32768, .i32⟩
  | 65 => ⟨S32768, .i32⟩
  | 66 => ⟨S32768x1, .f32⟩
  | 67 => ⟨S_, .i32⟩
  | 68 => ⟨S32768, .i32⟩
  | 69 => ⟨S32768, .i1⟩
  | 70 => ⟨S_, .i32⟩
  | 71 => ⟨S32768, .i32⟩
  | 72 => ⟨S32768, .i32⟩
  | 73 => ⟨S32768, .i32⟩
  | 74 => ⟨S32768x1, .i32⟩
  | 75 => ⟨S32768x32, .f32⟩
  | 76 => ⟨S32768x32, .f32⟩
  | 77 => ⟨S32768x32, .f32⟩
  | 78 => ⟨S32768x32, .f32⟩
  | 79 => ⟨S32768x1, .f32⟩
  | 80 => ⟨S32768, .f32⟩
  | 81 => ⟨S32768x1, .f32⟩
  | 82 => ⟨S32768, .f32⟩
  | 83 => ⟨S32768, .f32⟩
  | 84 => ⟨S32768x1, .f32⟩
  | 85 => ⟨S32768, .f32⟩
  | 86 => ⟨S32768, .f32⟩
  | 87 => ⟨S32768x1, .i32⟩
  | 88 => ⟨S32768, .i32⟩
  | 89 => ⟨S32768x1, .i32⟩
  | 90 => ⟨S32768, .i32⟩
  | 91 => ⟨S_, .i32⟩
  | 92 => ⟨S32768, .i32⟩
  | 93 => ⟨S32768, .i32⟩
  | 94 => ⟨S32768, .i32⟩
  | 95 => ⟨S32768x1, .i32⟩
  | 96 => ⟨S32768, .i32⟩
  | 97 => ⟨S_, .i32⟩
  | 98 => ⟨S32768, .i32⟩
  | 99 => ⟨S32768, .i32⟩
  | 100 => ⟨S32768, .i32⟩
  | 101 => ⟨S32768x1, .f32⟩
  | 102 => ⟨S_, .i32⟩
  | 103 => ⟨S32768, .i32⟩
  | 104 => ⟨S32768, .i1⟩
  | 105 => ⟨S_, .i32⟩
  | 106 => ⟨S32768, .i32⟩
  | 107 => ⟨S32768, .i32⟩
  | 108 => ⟨S32768, .i32⟩
  | 109 => ⟨S32768x1, .i32⟩
  | 110 => ⟨S32768x32, .f32⟩
  | 111 => ⟨S32768x32, .f32⟩
  | 112 => ⟨S32768x32, .f32⟩
  | 113 => ⟨S32768x32, .f32⟩
  | 114 => ⟨S32768x1, .f32⟩
  | 115 => ⟨S32768, .f32⟩
  | 116 => ⟨S32768x1, .f32⟩
  | 117 => ⟨S32768, .f32⟩
  | 118 => ⟨S32768, .f32⟩
  | 119 => ⟨S32768x1, .f32⟩
  | 120 => ⟨S32768, .f32⟩
  | 121 => ⟨S32768, .f32⟩
  | 122 => ⟨S32768x1, .i32⟩
  | 123 => ⟨S32768, .i32⟩
  | 124 => ⟨S32768x1, .i32⟩
  | 125 => ⟨S32768, .i32⟩
  | 126 => ⟨S_, .i32⟩
  | 127 => ⟨S32768, .i32⟩
  | _ => ⟨S32768x3, .f32⟩

abbrev hbmTy0_3 (i : Nat) : BufTy := match i % 128 with
  | 0 => ⟨S32768, .i32⟩
  | 1 => ⟨S32768, .i32⟩
  | 2 => ⟨S32768x1, .i32⟩
  | 3 => ⟨S32768, .i32⟩
  | 4 => ⟨S_, .i32⟩
  | 5 => ⟨S32768, .i32⟩
  | 6 => ⟨S32768, .i32⟩
  | 7 => ⟨S32768, .i32⟩
  | 8 => ⟨S32768x1, .f32⟩
  | 9 => ⟨S_, .i32⟩
  | 10 => ⟨S32768, .i32⟩
  | 11 => ⟨S32768, .i1⟩
  | 12 => ⟨S_, .i32⟩
  | 13 => ⟨S32768, .i32⟩
  | 14 => ⟨S32768, .i32⟩
  | 15 => ⟨S32768, .i32⟩
  | 16 => ⟨S32768x1, .i32⟩
  | 17 => ⟨S32768x32, .f32⟩
  | 18 => ⟨S32768x32, .f32⟩
  | 19 => ⟨S32768x32, .f32⟩
  | 20 => ⟨S32768x32, .f32⟩
  | 21 => ⟨S32, .f32⟩
  | 22 => ⟨S1x32, .f32⟩
  | 23 => ⟨S32768x32, .f32⟩
  | 24 => ⟨S32768x32, .f32⟩
  | 25 => ⟨S1x32, .f32⟩
  | 26 => ⟨S32768x32, .f32⟩
  | 27 => ⟨S32768x32, .f32⟩
  | 28 => ⟨S_, .f32⟩
  | 29 => ⟨S32, .f32⟩
  | 30 => ⟨S_, .f32⟩
  | 31 => ⟨S32, .f32⟩
  | 32 => ⟨S32, .f32⟩
  | 33 => ⟨S1x32, .f32⟩
  | 34 => ⟨S32768x32, .f32⟩
  | 35 => ⟨S32768x32, .f32⟩
  | 36 => ⟨S32768x32, .f32⟩
  | 37 => ⟨S_, .f32⟩
  | 38 => ⟨S32, .f32⟩
  | 39 => ⟨S_, .f32⟩
  | 40 => ⟨S32, .f32⟩
  | 41 => ⟨S32, .f32⟩
  | 42 => ⟨S1x32, .f32⟩
  | 43 => ⟨S32768x32, .f32⟩
  | 44 => ⟨S32768x32, .f32⟩
  | 45 => ⟨S1x32, .f32⟩
  | 46 => ⟨S32768x32, .f32⟩
  | 47 => ⟨S32768x32, .f32⟩
  | 48 => ⟨S_, .f32⟩
  | 49 => ⟨S32, .f32⟩
  | 50 => ⟨S32, .f32⟩
  | 51 => ⟨S32, .f32⟩
  | 52 => ⟨S1x32, .f32⟩
  | 53 => ⟨S32768x32, .f32⟩
  | 54 => ⟨S32768x32, .f32⟩
  | 55 => ⟨S1x32, .f32⟩
  | 56 => ⟨S32768x32, .f32⟩
  | 57 => ⟨S32768x32, .f32⟩
  | 58 => ⟨S32768x32, .f32⟩
  | 59 => ⟨S32768x32, .f32⟩
  | 60 => ⟨S_, .f32⟩
  | 61 => ⟨S32768x32, .f32⟩
  | 62 => ⟨S32768x32, .f32⟩
  | 63 => ⟨S_, .f32⟩
  | 64 => ⟨S32768x32, .f32⟩
  | 65 => ⟨S32768x32, .f32⟩
  | 66 => ⟨S32x1024x32, .f32⟩
  | 67 => ⟨S_, .f32⟩
  | 68 => ⟨S32x32, .f32⟩
  | 69 => ⟨S_, .f32⟩
  | 70 => ⟨S32x32, .f32⟩
  | 71 => ⟨S32x32, .f32⟩
  | 72 => ⟨S32x256, .f32⟩
  | 73 => ⟨S1x256, .f32⟩
  | 74 => ⟨S32x256, .f32⟩
  | 75 => ⟨S32x256, .f32⟩
  | 76 => ⟨S_, .f32⟩
  | 77 => ⟨S32x256, .f32⟩
  | 78 => ⟨S32x256, .i1⟩
  | 79 => ⟨S_, .f32⟩
  | 80 => ⟨S32x256, .f32⟩
  | 81 => ⟨S32x256, .i1⟩
  | 82 => ⟨S_, .f32⟩
  | 83 => ⟨S_, .f32⟩
  | 84 => ⟨S32x256, .f32⟩
  | 85 => ⟨S32x256, .f32⟩
  | 86 => ⟨S32x256, .f32⟩
  | 87 => ⟨S_, .f32⟩
  | 88 => ⟨S32x256, .f32⟩
  | 89 => ⟨S32x256, .f32⟩
  | 90 => ⟨S32x256, .f32⟩
  | 91 => ⟨S32x40, .f32⟩
  | 92 => ⟨S1x40, .f32⟩
  | 93 => ⟨S32x40, .f32⟩
  | 94 => ⟨S32x40, .f32⟩
  | 95 => ⟨S32x1024x9, .f32⟩
  | 96 => ⟨S_, .f32⟩
  | 97 => ⟨S32, .f32⟩
  | 98 => ⟨S_, .f32⟩
  | 99 => ⟨S32, .f32⟩
  | 100 => ⟨S32, .f32⟩
  | 101 => ⟨S32x1, .f32⟩
  | 102 => ⟨S32x40, .f32⟩
  | 103 => ⟨S32x40, .f32⟩
  | 104 => ⟨S32x40, .f32⟩
  | 105 => ⟨S_, .f32⟩
  | 106 => ⟨S32, .f32⟩
  | 107 => ⟨S32x1, .f32⟩
  | 108 => ⟨S32x1, .f32⟩
  | 109 => ⟨S32x40, .f32⟩
  | 110 => ⟨S32x40, .f32⟩
  | _ => ⟨S32768x3, .f32⟩

abbrev hbmTy (i : Nat) : BufTy := match i / 128 with
  | 0 => hbmTy0_0 i
  | 1 => hbmTy0_1 i
  | 2 => hbmTy0_2 i
  | 3 => hbmTy0_3 i
  | _ => ⟨S32768x3, .f32⟩

abbrev bufTy : (tb : Table) → Fin (tcTables nBuf tb) → BufTy
  | .hbm, ⟨i, _⟩ => hbmTy i
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_values : Ref sig .tc := ⟨.hbm, 39, rfl⟩
abbrev main_indices : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩
abbrev main_cst_9 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_10 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_c_12 : Ref sig .tc := ⟨.hbm, 103, rfl⟩
abbrev main_c_13 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_v76 : Ref sig .tc := ⟨.hbm, 110, rfl⟩
abbrev main_c_14 : Ref sig .tc := ⟨.hbm, 111, rfl⟩
abbrev main_v77 : Ref sig .tc := ⟨.hbm, 112, rfl⟩
abbrev main_v78 : Ref sig .tc := ⟨.hbm, 113, rfl⟩
abbrev main_c_15 : Ref sig .tc := ⟨.hbm, 114, rfl⟩
abbrev main_c_16 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_call1_v3 : Ref sig .tc := ⟨.hbm, 119, rfl⟩
abbrev main_call1_v4 : Ref sig .tc := ⟨.hbm, 120, rfl⟩
abbrev main_v79 : Ref sig .tc := ⟨.hbm, 121, rfl⟩
abbrev main_v80 : Ref sig .tc := ⟨.hbm, 122, rfl⟩
abbrev main_cst_17 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_18 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_c_19 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_c_20 : Ref sig .tc := ⟨.hbm, 148, rfl⟩
abbrev main_v103 : Ref sig .tc := ⟨.hbm, 149, rfl⟩
abbrev main_v104 : Ref sig .tc := ⟨.hbm, 150, rfl⟩
abbrev main_c_21 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_c_22 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_23 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_c_24 : Ref sig .tc := ⟨.hbm, 183, rfl⟩
abbrev main_v134 : Ref sig .tc := ⟨.hbm, 184, rfl⟩
abbrev main_v135 : Ref sig .tc := ⟨.hbm, 185, rfl⟩
abbrev main_c_25 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_26 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_c_27 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_c_28 : Ref sig .tc := ⟨.hbm, 218, rfl⟩
abbrev main_v165 : Ref sig .tc := ⟨.hbm, 219, rfl⟩
abbrev main_v166 : Ref sig .tc := ⟨.hbm, 220, rfl⟩
abbrev main_c_29 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_c_30 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_c_31 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_c_32 : Ref sig .tc := ⟨.hbm, 253, rfl⟩
abbrev main_v196 : Ref sig .tc := ⟨.hbm, 254, rfl⟩
abbrev main_v197 : Ref sig .tc := ⟨.hbm, 255, rfl⟩
abbrev main_c_33 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_c_34 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_c_35 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_c_36 : Ref sig .tc := ⟨.hbm, 288, rfl⟩
abbrev main_v227 : Ref sig .tc := ⟨.hbm, 289, rfl⟩
abbrev main_v228 : Ref sig .tc := ⟨.hbm, 290, rfl⟩
abbrev main_c_37 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_c_38 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_c_39 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_c_40 : Ref sig .tc := ⟨.hbm, 323, rfl⟩
abbrev main_v258 : Ref sig .tc := ⟨.hbm, 324, rfl⟩
abbrev main_v259 : Ref sig .tc := ⟨.hbm, 325, rfl⟩
abbrev main_c_41 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_c_42 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_c_43 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_c_44 : Ref sig .tc := ⟨.hbm, 358, rfl⟩
abbrev main_v289 : Ref sig .tc := ⟨.hbm, 359, rfl⟩
abbrev main_v290 : Ref sig .tc := ⟨.hbm, 360, rfl⟩
abbrev main_c_45 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_c_46 : Ref sig .tc := ⟨.hbm, 382, rfl⟩
abbrev main_v311 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_v315 : Ref sig .tc := ⟨.hbm, 387, rfl⟩
abbrev main_c_47 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_c_48 : Ref sig .tc := ⟨.hbm, 393, rfl⟩
abbrev main_v320 : Ref sig .tc := ⟨.hbm, 394, rfl⟩
abbrev main_v321 : Ref sig .tc := ⟨.hbm, 395, rfl⟩
abbrev main_c_49 : Ref sig .tc := ⟨.hbm, 396, rfl⟩
abbrev main_v322 : Ref sig .tc := ⟨.hbm, 397, rfl⟩
abbrev main_v323 : Ref sig .tc := ⟨.hbm, 398, rfl⟩
abbrev main_v324 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_cst_50 : Ref sig .tc := ⟨.hbm, 412, rfl⟩
abbrev main_v337 : Ref sig .tc := ⟨.hbm, 413, rfl⟩
abbrev main_cst_51 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_cst_52 : Ref sig .tc := ⟨.hbm, 421, rfl⟩
abbrev main_v344 : Ref sig .tc := ⟨.hbm, 422, rfl⟩
abbrev main_cst_53 : Ref sig .tc := ⟨.hbm, 423, rfl⟩
abbrev main_v345 : Ref sig .tc := ⟨.hbm, 424, rfl⟩
abbrev main_v346 : Ref sig .tc := ⟨.hbm, 425, rfl⟩
abbrev main_v347 : Ref sig .tc := ⟨.hbm, 426, rfl⟩
abbrev main_v348 : Ref sig .tc := ⟨.hbm, 427, rfl⟩
abbrev main_v349 : Ref sig .tc := ⟨.hbm, 428, rfl⟩
abbrev main_v350 : Ref sig .tc := ⟨.hbm, 429, rfl⟩
abbrev main_v351 : Ref sig .tc := ⟨.hbm, 430, rfl⟩
abbrev main_v352 : Ref sig .tc := ⟨.hbm, 431, rfl⟩
abbrev main_cst_54 : Ref sig .tc := ⟨.hbm, 432, rfl⟩
abbrev main_v353 : Ref sig .tc := ⟨.hbm, 433, rfl⟩
abbrev main_v354 : Ref sig .tc := ⟨.hbm, 434, rfl⟩
abbrev main_v355 : Ref sig .tc := ⟨.hbm, 435, rfl⟩
abbrev main_v356 : Ref sig .tc := ⟨.hbm, 436, rfl⟩
abbrev main_v357 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_v361 : Ref sig .tc := ⟨.hbm, 441, rfl⟩
abbrev main_v362 : Ref sig .tc := ⟨.hbm, 442, rfl⟩
abbrev main_v363 : Ref sig .tc := ⟨.hbm, 443, rfl⟩
abbrev main_cst_55 : Ref sig .tc := ⟨.hbm, 444, rfl⟩
abbrev main_v364 : Ref sig .tc := ⟨.hbm, 445, rfl⟩
abbrev main_v365 : Ref sig .tc := ⟨.hbm, 446, rfl⟩
abbrev main_cst_56 : Ref sig .tc := ⟨.hbm, 447, rfl⟩
abbrev main_v366 : Ref sig .tc := ⟨.hbm, 448, rfl⟩
abbrev main_v367 : Ref sig .tc := ⟨.hbm, 449, rfl⟩
abbrev main_v368 : Ref sig .tc := ⟨.hbm, 450, rfl⟩
abbrev main_cst_57 : Ref sig .tc := ⟨.hbm, 451, rfl⟩
abbrev main_v369 : Ref sig .tc := ⟨.hbm, 452, rfl⟩
abbrev main_cst_58 : Ref sig .tc := ⟨.hbm, 453, rfl⟩
abbrev main_v370 : Ref sig .tc := ⟨.hbm, 454, rfl⟩
abbrev main_v371 : Ref sig .tc := ⟨.hbm, 455, rfl⟩
abbrev main_v372 : Ref sig .tc := ⟨.hbm, 456, rfl⟩
abbrev main_v373 : Ref sig .tc := ⟨.hbm, 457, rfl⟩
abbrev main_v374 : Ref sig .tc := ⟨.hbm, 458, rfl⟩
abbrev main_v375 : Ref sig .tc := ⟨.hbm, 459, rfl⟩
abbrev main_call2_cst : Ref sig .tc := ⟨.hbm, 460, rfl⟩
abbrev main_call2_v0 : Ref sig .tc := ⟨.hbm, 461, rfl⟩
abbrev main_call2_v1 : Ref sig .tc := ⟨.hbm, 462, rfl⟩
abbrev main_call2_cst_0 : Ref sig .tc := ⟨.hbm, 463, rfl⟩
abbrev main_call2_v2 : Ref sig .tc := ⟨.hbm, 464, rfl⟩
abbrev main_call2_v3 : Ref sig .tc := ⟨.hbm, 465, rfl⟩
abbrev main_call2_cst_1 : Ref sig .tc := ⟨.hbm, 466, rfl⟩
abbrev main_call2_call0_v0 : Ref sig .tc := ⟨.hbm, 467, rfl⟩
abbrev main_call2_call0_v1 : Ref sig .tc := ⟨.hbm, 468, rfl⟩
abbrev main_call2_v4 : Ref sig .tc := ⟨.hbm, 469, rfl⟩
abbrev main_call2_v5 : Ref sig .tc := ⟨.hbm, 470, rfl⟩
abbrev main_call2_cst_2 : Ref sig .tc := ⟨.hbm, 471, rfl⟩
abbrev main_call2_v6 : Ref sig .tc := ⟨.hbm, 472, rfl⟩
abbrev main_call2_v7 : Ref sig .tc := ⟨.hbm, 473, rfl⟩
abbrev main_v376 : Ref sig .tc := ⟨.hbm, 474, rfl⟩
abbrev main_v377 : Ref sig .tc := ⟨.hbm, 475, rfl⟩
abbrev main_v378 : Ref sig .tc := ⟨.hbm, 476, rfl⟩
abbrev main_v379 : Ref sig .tc := ⟨.hbm, 477, rfl⟩
abbrev main_v380 : Ref sig .tc := ⟨.hbm, 478, rfl⟩
abbrev main_v381 : Ref sig .tc := ⟨.hbm, 479, rfl⟩
abbrev main_call3_cst : Ref sig .tc := ⟨.hbm, 480, rfl⟩
abbrev main_call3_v0 : Ref sig .tc := ⟨.hbm, 481, rfl⟩
abbrev main_call3_cst_0 : Ref sig .tc := ⟨.hbm, 482, rfl⟩
abbrev main_call3_v1 : Ref sig .tc := ⟨.hbm, 483, rfl⟩
abbrev main_call3_v2 : Ref sig .tc := ⟨.hbm, 484, rfl⟩
abbrev main_call3_v3 : Ref sig .tc := ⟨.hbm, 485, rfl⟩
abbrev main_call3_v4 : Ref sig .tc := ⟨.hbm, 486, rfl⟩
abbrev main_call3_v5 : Ref sig .tc := ⟨.hbm, 487, rfl⟩
abbrev main_call3_v6 : Ref sig .tc := ⟨.hbm, 488, rfl⟩
abbrev main_call3_cst_1 : Ref sig .tc := ⟨.hbm, 489, rfl⟩
abbrev main_call3_v7 : Ref sig .tc := ⟨.hbm, 490, rfl⟩
abbrev main_call3_v8 : Ref sig .tc := ⟨.hbm, 491, rfl⟩
abbrev main_call3_v9 : Ref sig .tc := ⟨.hbm, 492, rfl⟩
abbrev main_call3_v10 : Ref sig .tc := ⟨.hbm, 493, rfl⟩
abbrev main_v382 : Ref sig .tc := ⟨.hbm, 494, rfl⟩

abbrev nD : Nat := 1
abbrev τ : Topo := Topo.v7x

variable {F : FTy → Type} [FloatOps F]
-- ==== Proof.Arrays.lean ====
module

public import proofs.«01_k».proof.Proof.Gen.KernelIdeal.Frame
public import Idealize.ShloMosaic.Lib.Pipeline.ValueKit
public import Idealize.ShloMosaic.Lib.Pointwise

/-!
What the three calls leave in their arrays: each sample's block is what the body makes of the blocks of
that sample.
-/

@[expose] public section

set_option maxRecDepth 16384

noncomputable section

open Idealize.ShloMosaic Idealize.ShloMosaic.TcCoe Idealize.SL.Sem
open Cert.KernelIdeal Cert.KernelIdeal.Gen

namespace Cert.KernelIdeal.Arr

/-- One sample's block of an array of samples. -/
def blk3 {B P C : Nat} {α : Type} (x : (Shape.mk 3 ![B, P, C]).Idx → α) (b : Fin B) : (Shape.mk 3 ![1, P, C]).Idx → α :=
  fun y => x (ix3 b (y 1) (y 2))

variable (V : (c : Dev nD) → (b : Ref sig .tc) → Buf (Elt Ideal) ((c : Thread nD τ).loc b)) (c : Dev nD)

/-! Each window of the first two calls that moves with the sample stands at it. -/

/-- Window 0 of call 0 stands at the sample of the step. -/
theorem at0_0 : ∀ t : Fin cfg0.N, win0_0.index t = ![(grid0.coords t 0).val, 0, 0] :=
  (by decide +kernel : ∀ t : Fin grid0.N, _)
/-- Window 1 of call 0 stands at the sample of the step. -/
theorem at0_1 : ∀ t : Fin cfg0.N, win0_1.index t = ![(grid0.coords t 0).val, 0, 0] :=
  (by decide +kernel : ∀ t : Fin grid0.N, _)
/-- Window 2 of call 0 stands at the sample of the step. -/
theorem at0_2 : ∀ t : Fin cfg0.N, win0_2.index t = ![(grid0.coords t 0).val, 0, 0] :=
  (by decide +kernel : ∀ t : Fin grid0.N, _)
/-- Window 3 of call 0 stands at the sample of the step. -/
theorem at0_3 : ∀ t : Fin cfg0.N, win0_3.index t = ![(grid0.coords t 0).val, 0, 0] :=
  (by decide +kernel : ∀ t : Fin grid0.N, _)
/-- Window 4 of call 0 stands at the sample of the step. -/
theorem at0_4 : ∀ t : Fin cfg0.N, win0_4.index t = ![(grid0.coords t 0).val, 0, 0] :=
  (by decide +kernel : ∀ t : Fin grid0.N, _)
/-- Window 0 of call 1 stands at the sample of the step. -/
theorem at1_0 : ∀ t : Fin cfg1.N, win1_0.index t = ![(grid1.coords t 0).val, 0, 0] :=
  (by decide +kernel : ∀ t : Fin grid1.N, _)
/-- Window 1 of call 1 stands at the sample of the step. -/
theorem at1_1 : ∀ t : Fin cfg1.N, win1_1.index t = ![(grid1.coords t 0).val, 0, 0] :=
  (by decide +kernel : ∀ t : Fin grid1.N, _)
/-- Window 2 of call 1 stands at the sample of the step. -/
theorem at1_2 : ∀ t : Fin cfg1.N, win1_2.index t = ![(grid1.coords t 0).val, 0, 0] :=
  (by decide +kernel : ∀ t : Fin grid1.N, _)
/-- Window 3 of call 1 stands at the sample of the step. -/
theorem at1_3 : ∀ t : Fin cfg1.N, win1_3.index t = ![(grid1.coords t 0).val, 0, 0] :=
  (by decide +kernel : ∀ t : Fin grid1.N, _)
/-- Window 4 of call 1 stands at the sample of the step. -/
theorem at1_4 : ∀ t : Fin cfg1.N, win1_4.index t = ![(grid1.coords t 0).val, 0, 0] :=
  (by decide +kernel : ∀ t : Fin grid1.N, _)
/-- Window 8 of call 1 stands at the sample of the step. -/
theorem at1_8 : ∀ t : Fin cfg1.N, win1_8.index t = ![(grid1.coords t 0).val, 0, 0] :=
  (by decide +kernel : ∀ t : Fin grid1.N, _)
/-- Window 5 of call 1 stands at the whole array at every step. -/
theorem at1_5 : ∀ t : Fin cfg1.N, win1_5.index t = ![0, 0] :=
  (by decide +kernel : ∀ t : Fin grid1.N, _)
/-- Window 6 of call 1 stands at the whole array at every step. -/
theorem at1_6 : ∀ t : Fin cfg1.N, win1_6.index t = ![0, 0] :=
  (by decide +kernel : ∀ t : Fin grid1.N, _)
/-- Window 7 of call 1 stands at the whole array at every step. -/
theorem at1_7 : ∀ t : Fin cfg1.N, win1_7.index t = ![0, 0] :=
  (by decide +kernel : ∀ t : Fin grid1.N, _)
/-- Window 0 of call 2 stands at the whole array at every step. -/
theorem at2_0 : ∀ t : Fin cfg2.N, win2_0.index t = ![0, 0] :=
  (by decide +kernel : ∀ t : Fin grid2.N, _)
/-- Window 1 of call 2 stands at the whole array at every step. -/
theorem at2_1 : ∀ t : Fin cfg2.N, win2_1.index t = ![0, 0] :=
  (by decide +kernel : ∀ t : Fin grid2.N, _)
/-- Window 2 of call 2 stands at the whole array at every step. -/
theorem at2_2 : ∀ t : Fin cfg2.N, win2_2.index t = ![0, 0] :=
  (by decide +kernel : ∀ t : Fin grid2.N, _)
/-- Window 3 of call 2 stands at the whole array at every step. -/
theorem at2_3 : ∀ t : Fin cfg2.N, win2_3.index t = ![0, 0] :=
  (by decide +kernel : ∀ t : Fin grid2.N, _)
/-- Window 4 of call 2 stands at the whole array at every step. -/
theorem at2_4 : ∀ t : Fin cfg2.N, win2_4.index t = ![0, 0] :=
  (by decide +kernel : ∀ t : Fin grid2.N, _)
/-- Window 5 of call 2 stands at the whole array at every step. -/
theorem at2_5 : ∀ t : Fin cfg2.N, win2_5.index t = ![0, 0] :=
  (by decide +kernel : ∀ t : Fin grid2.N, _)
/-- Window 6 of call 2 stands at the whole array at every step. -/
theorem at2_6 : ∀ t : Fin cfg2.N, win2_6.index t = ![0, 0] :=
  (by decide +kernel : ∀ t : Fin grid2.N, _)
/-- Window 7 of call 2 stands at the whole array at every step. -/
theorem at2_7 : ∀ t : Fin cfg2.N, win2_7.index t = ![0, 0] :=
  (by decide +kernel : ∀ t : Fin grid2.N, _)

/-- The array of the first call's window 1. -/
theorem arr0_1 : (dat0 V c).arrAt 1 cfg0.N =
    (fun i => out0_1 (blk3 (B := 32) (P := 1024) (C := 3) (V c main_v0) (i 0)) (ix3 0 (i 1) (i 2)) :
      Vec Ideal S32x1024x9 .f32) := by
  refine (dat0 V c).arrAt_eq_of_covers 1 _ (by decide +kernel) fun t hf y => ?_
  blk_simp
  rw [after0_1]
  have h : iblk0 V c 0 t = blk3 (B := 32) (P := 1024) (C := 3) (V c main_v0)
      ((((cfg0.win 1).blk t).view.emb y : S32x1024x9.Idx) 0) := by
    funext z
    unfold blk3
    blk_ext [iblk0, at0_0, at0_1]
  rw [h]
  congr 1
  blk_ext [at0_1]

/-- The array of the first call's window 2. -/
theorem arr0_2 : (dat0 V c).arrAt 2 cfg0.N =
    (fun i => out0_2 (blk3 (B := 32) (P := 1024) (C := 3) (V c main_v0) (i 0)) (ix3 0 (i 1) (i 2)) :
      Vec Ideal S32x1024x3 .f32) := by
  refine (dat0 V c).arrAt_eq_of_covers 2 _ (by decide +kernel) fun t hf y => ?_
  blk_simp
  rw [after0_2]
  have h : iblk0 V c 0 t = blk3 (B := 32) (P := 1024) (C := 3) (V c main_v0)
      ((((cfg0.win 2).blk t).view.emb y : S32x1024x3.Idx) 0) := by
    funext z
    unfold blk3
    blk_ext [iblk0, at0_0, at0_2]
  rw [h]
  congr 1
  blk_ext [at0_2]

/-- The array of the first call's window 3. -/
theorem arr0_3 : (dat0 V c).arrAt 3 cfg0.N =
    (fun i => out0_3 (blk3 (B := 32) (P := 1024) (C := 3) (V c main_v0) (i 0)) (ix3 0 (i 1) (i 2)) :
      Vec Ideal S32x1024x3 .f32) := by
  refine (dat0 V c).arrAt_eq_of_covers 3 _ (by decide +kernel) fun t hf y => ?_
  blk_simp
  rw [after0_3]
  have h : iblk0 V c 0 t = blk3 (B := 32) (P := 1024) (C := 3) (V c main_v0)
      ((((cfg0.win 3).blk t).view.emb y : S32x1024x3.Idx) 0) := by
    funext z
    unfold blk3
    blk_ext [iblk0, at0_0, at0_3]
  rw [h]
  congr 1
  blk_ext [at0_3]

/-- The array of the first call's window 4. -/
theorem arr0_4 : (dat0 V c).arrAt 4 cfg0.N =
    (fun i => out0_4 (blk3 (B := 32) (P := 1024) (C := 3) (V c main_v0) (i 0)) (ix3 0 (i 1) (i 2)) :
      Vec Ideal S32x1024x1 .f32) := by
  refine (dat0 V c).arrAt_eq_of_covers 4 _ (by decide +kernel) fun t hf y => ?_
  blk_simp
  rw [after0_4]
  have h : iblk0 V c 0 t = blk3 (B := 32) (P := 1024) (C := 3) (V c main_v0)
      ((((cfg0.win 4).blk t).view.emb y : S32x1024x1.Idx) 0) := by
    funext z
    unfold blk3
    blk_ext [iblk0, at0_0, at0_4]
  rw [h]
  congr 1
  blk_ext [at0_4]

/-! The blocks the second call reads at a point. -/

/-- The block window 0 of call 1 reads. -/
theorem blk1_0 (t : Fin cfg1.N) (b : Fin 32) (hb : b.val = (grid1.coords t 0).val) :
    iblk1 V c 0 t = blk3 (B := 32) (P := 1024) (C := 3) (V c main_v0) b := by
  funext z
  unfold blk3
  blk_ext [iblk1, at1_0]
/-- The block window 1 of call 1 reads. -/
theorem blk1_1 (t : Fin cfg1.N) (b : Fin 32) (hb : b.val = (grid1.coords t 0).val) :
    iblk1 V c 1 t = blk3 (B := 32) (P := 1024) (C := 9) (V c main_v2) b := by
  funext z
  unfold blk3
  blk_ext [iblk1, at1_1]
/-- The block window 2 of call 1 reads. -/
theorem blk1_2 (t : Fin cfg1.N) (b : Fin 32) (hb : b.val = (grid1.coords t 0).val) :
    iblk1 V c 2 t = blk3 (B := 32) (P := 1024) (C := 3) (V c main_v1_1) b := by
  funext z
  unfold blk3
  blk_ext [iblk1, at1_2]
/-- The block window 3 of call 1 reads. -/
theorem blk1_3 (t : Fin cfg1.N) (b : Fin 32) (hb : b.val = (grid1.coords t 0).val) :
    iblk1 V c 3 t = blk3 (B := 32) (P := 1024) (C := 3) (V c main_v1_2) b := by
  funext z
  unfold blk3
  blk_ext [iblk1, at1_3]
/-- The block window 4 of call 1 reads. -/
theorem blk1_4 (t : Fin cfg1.N) (b : Fin 32) (hb : b.val = (grid1.coords t 0).val) :
    iblk1 V c 4 t = blk3 (B := 32) (P := 1024) (C := 1) (V c main_v1_3) b := by
  funext z
  unfold blk3
  blk_ext [iblk1, at1_4]
/-- The block window 5 of call 1 reads. -/
theorem blk1_5 (t : Fin cfg1.N) : iblk1 V c 5 t = V c main_v3 := by
  funext z
  blk_ext [iblk1, at1_5]
/-- The block window 6 of call 1 reads. -/
theorem blk1_6 (t : Fin cfg1.N) : iblk1 V c 6 t = V c main_arg3 := by
  funext z
  blk_ext [iblk1, at1_6]
/-- The block window 7 of call 1 reads. -/
theorem blk1_7 (t : Fin cfg1.N) : iblk1 V c 7 t = V c main_v4 := by
  funext z
  blk_ext [iblk1, at1_7]

/-- The array of the second call's window 8. -/
theorem arr1_8 : (dat1 V c).arrAt 8 cfg1.N =
    (fun i => out1_8 (blk3 (B := 32) (P := 1024) (C := 3) (V c main_v0) (i 0)) (blk3 (B := 32) (P := 1024) (C := 9) (V c main_v2) (i 0)) (blk3 (B := 32) (P := 1024) (C := 3) (V c main_v1_1) (i 0)) (blk3 (B := 32) (P := 1024) (C := 3) (V c main_v1_2) (i 0)) (blk3 (B := 32) (P := 1024) (C := 1) (V c main_v1_3) (i 0))
      (V c main_v3) (V c main_arg3) (V c main_v4) (ix3 0 (i 1) (i 2)) :
      Vec Ideal S32x1024x32 .f32) := by
  refine (dat1 V c).arrAt_eq_of_covers 8 _ (by decide +kernel) fun t hf y => ?_
  blk_simp
  rw [after1_8]
  have hb : ((((cfg1.win 8).blk t).view.emb y : S32x1024x32.Idx) 0).val = (grid1.coords t 0).val := by
    blk_simp [at1_8]
  have hy : (y : S1x1024x32.Idx) = ix3 0 ((((cfg1.win 8).blk t).view.emb y : S32x1024x32.Idx) 1)
      ((((cfg1.win 8).blk t).view.emb y : S32x1024x32.Idx) 2) := by
    blk_ext [at1_8]
  generalize ((cfg1.win 8).blk t).view.emb y = z at hb hy ⊢
  rw [blk1_0 V c t _ hb, blk1_1 V c t _ hb, blk1_2 V c t _ hb, blk1_3 V c t _ hb, blk1_4 V c t _ hb,
    blk1_5, blk1_6, blk1_7]
  exact congrArg (out1_8 _ _ _ _ _ _ _ _) hy

/-! The blocks the third call reads are its arrays. -/

/-- The block window 0 of call 2 reads. -/
theorem blk2_0 (t : Fin cfg2.N) : iblk2 V c 0 t = V c main_v6 := by
  funext z
  blk_ext [iblk2, at2_0]
/-- The block window 1 of call 2 reads. -/
theorem blk2_1 (t : Fin cfg2.N) : iblk2 V c 1 t = V c main_v7 := by
  funext z
  blk_ext [iblk2, at2_1]
/-- The block window 2 of call 2 reads. -/
theorem blk2_2 (t : Fin cfg2.N) : iblk2 V c 2 t = V c main_v8 := by
  funext z
  blk_ext [iblk2, at2_2]
/-- The block window 3 of call 2 reads. -/
theorem blk2_3 (t : Fin cfg2.N) : iblk2 V c 3 t = V c main_arg7 := by
  funext z
  blk_ext [iblk2, at2_3]
/-- The block window 4 of call 2 reads. -/
theorem blk2_4 (t : Fin cfg2.N) : iblk2 V c 4 t = V c main_v9 := by
  funext z
  blk_ext [iblk2, at2_4]
/-- The block window 5 of call 2 reads. -/
theorem blk2_5 (t : Fin cfg2.N) : iblk2 V c 5 t = V c main_arg9 := by
  funext z
  blk_ext [iblk2, at2_5]
/-- The block window 6 of call 2 reads. -/
theorem blk2_6 (t : Fin cfg2.N) : iblk2 V c 6 t = V c main_v10 := by
  funext z
  blk_ext [iblk2, at2_6]

/-- The array of the third call's result. -/
theorem arr2_7 : (dat2 V c).arrAt 7 cfg2.N =
    (out2_7 (V c main_v6) (V c main_v7) (V c main_v8) (V c main_arg7) (V c main_v9) (V c main_arg9) (V c main_v10) : Vec Ideal S32x40 .f32) := by
  refine (dat2 V c).arrAt_eq_of_covers 7 _ (by decide +kernel) fun t hf y => ?_
  blk_simp
  rw [after2_7]
  have hy : (y : S32x40.Idx) = (((cfg2.win 7).blk t).view.emb y : S32x40.Idx) := by
    blk_ext [at2_7]
  generalize ((cfg2.win 7).blk t).view.emb y = z at hy ⊢
  rw [blk2_0, blk2_1, blk2_2, blk2_3, blk2_4, blk2_5, blk2_6]
  exact congrArg (out2_7 _ _ _ _ _ _ _) hy

end Cert.KernelIdeal.Arr
-- ==== Proof.Reads.lean ====
module

public import proofs.«01_k».proof.Proof.Arrays

/-!
The two results of the kernel as terms over its arguments: the calls' arrays chained through the
reshapes between them.
-/

@[expose] public section

set_option maxRecDepth 16384

noncomputable section

open Idealize.ShloMosaic Idealize.ShloMosaic.TcCoe Idealize.SL.Sem
open Cert.KernelIdeal Cert.KernelIdeal.Gen

namespace Cert.KernelIdeal.Arr

variable (m : (ℓ : Loc nD τ sig) → Buf (Elt Ideal) ℓ) (ρ : Dev nD → PrngReg) (c : Dev nD)

/-- The points, sample by sample. -/
def points : Vec Ideal S32x1024x3 .f32 :=
  shapeCast S32x1024x3 (m ((c : Thread nD τ).loc main_arg0)) shapeCasts_S32768x3_S32x1024x3

/-- The frames, sample by sample, nine numbers a point. -/
def frames : Vec Ideal S32x1024x9 .f32 :=
  shapeCast S32x1024x9 (m ((c : Thread nD τ).loc main_arg1)) shapeCasts_S32768x3x3_S32x1024x9

/-- The points of one sample. -/
def sample (b : Fin 32) : Vec Ideal S1x1024x3 .f32 := blk3 (B := 32) (P := 1024) (C := 3) (points m c) b

/-- The first result. -/
def covs : Vec Ideal S32x1024x9 .f32 := fun i => out0_1 (sample m c (i 0)) (ix3 0 (i 1) (i 2))

/-- The second call's result on one sample. -/
def conv (b : Fin 32) : Vec Ideal S1x1024x32 .f32 :=
  out1_8 (sample m c b) (blk3 (B := 32) (P := 1024) (C := 9) (frames m c) b)
    (out0_2 (sample m c b)) (out0_3 (sample m c b)) (out0_4 (sample m c b))
    (shapeCast S125x32 (m ((c : Thread nD τ).loc main_arg2)) shapeCasts_S125x1x32_S125x32)
    (m ((c : Thread nD τ).loc main_arg3))
    (shapeCast S1x32 (m ((c : Thread nD τ).loc main_arg4)) shapeCasts_S32_S1x32)

/-- The second result. -/
def head : Vec Ideal S32x40 .f32 :=
  out2_7 (shapeCast S32768x32 (fun i => conv m c (i 0) (ix3 0 (i 1) (i 2)) : Vec Ideal S32x1024x32 .f32)
      shapeCasts_S32x1024x32_S32768x32)
    (shapeCast S1x32 (m ((c : Thread nD τ).loc main_arg5)) shapeCasts_S32_S1x32)
    (shapeCast S1x32 (m ((c : Thread nD τ).loc main_arg6)) shapeCasts_S32_S1x32)
    (m ((c : Thread nD τ).loc main_arg7))
    (shapeCast S1x256 (m ((c : Thread nD τ).loc main_arg8)) shapeCasts_S256_S1x256)
    (m ((c : Thread nD τ).loc main_arg9))
    (shapeCast S1x40 (m ((c : Thread nD τ).loc main_arg10)) shapeCasts_S40_S1x40)

/-- A block of one sample taken out of an array given sample by sample. -/
theorem blk3_one {P C : Nat} {α : Type} (f : Fin 32 → (Shape.mk 3 ![1, P, C]).Idx → α) (b : Fin 32) :
    blk3 (B := 32) (P := P) (C := C) (fun i => f (i 0) (ix3 0 (i 1) (i 2))) b = f b := by
  funext y
  refine congrArg (f b) (funext fun k => ?_)
  match k with
  | ⟨0, _⟩ => exact Fin.ext (by have := (y 0).isLt; show 0 = (y 0).val; exact (Nat.lt_one_iff.mp this).symm)
  | ⟨1, _⟩ => rfl
  | ⟨2, _⟩ => rfl

/-- The array of points when the first call starts. -/
theorem points_eq : W1 m ρ c (Proc.devRef .tc main_v0) = points m c := rfl
/-- The array of points when the second call starts. -/
theorem points_eq' : W3 m ρ c (Proc.devRef .tc main_v0) = points m c :=
  (W3_of m ρ c main_v0 (by decide)).trans ((W2_of m ρ c main_v0 (by decide)).trans (points_eq m ρ c))
/-- The array of frames when the second call starts. -/
theorem frames_eq : W3 m ρ c (Proc.devRef .tc main_v2) = frames m c := by
  have h := W2_args m ρ c main_arg1 (by decide)
  unfold frames
  rw [← h]
  after_results
  rfl
/-- The weight table when the second call starts. -/
theorem table_eq : W3 m ρ c (Proc.devRef .tc main_v3) =
    shapeCast S125x32 (m ((c : Thread nD τ).loc main_arg2)) shapeCasts_S125x1x32_S125x32 := by
  have h := W2_args m ρ c main_arg2 (by decide)
  rw [← h]
  after_results
  rfl
/-- The bias when the second call starts. -/
theorem bias_eq : W3 m ρ c (Proc.devRef .tc main_v4) =
    shapeCast S1x32 (m ((c : Thread nD τ).loc main_arg4)) shapeCasts_S32_S1x32 := by
  have h := W2_args m ρ c main_arg4 (by decide)
  rw [← h]
  after_results
  rfl

/-- The first result, when the first call ends. -/
theorem covs_eq' : W2 m ρ c (Proc.devRef .tc main_v1_0) = covs m c :=
  (W2_arr m ρ c 1).trans (arr0_1 (V1 m ρ) c)
/-- The first result, at the end. -/
theorem covs_eq : W6 m ρ c (Proc.devRef .tc main_v1_0) = covs m c :=
  (W6_of m ρ c main_v1_0 (by decide)).trans ((W5_of m ρ c main_v1_0 (by decide)).trans
    ((W4_of m ρ c main_v1_0 (by decide)).trans ((W3_of m ρ c main_v1_0 (by decide)).trans (covs_eq' m ρ c))))
/-- The other three arrays of the first call when the second starts. -/
theorem sums_eq : W3 m ρ c (Proc.devRef .tc main_v1_1) =
    (fun i => out0_2 (sample m c (i 0)) (ix3 0 (i 1) (i 2)) : Vec Ideal S32x1024x3 .f32) :=
  (W3_of m ρ c main_v1_1 (by decide)).trans ((W2_arr m ρ c 2).trans (arr0_2 (V1 m ρ) c))
/-- The nearest neighbours' offsets when the second call starts. -/
theorem firsts_eq : W3 m ρ c (Proc.devRef .tc main_v1_2) =
    (fun i => out0_3 (sample m c (i 0)) (ix3 0 (i 1) (i 2)) : Vec Ideal S32x1024x3 .f32) :=
  (W3_of m ρ c main_v1_2 (by decide)).trans ((W2_arr m ρ c 3).trans (arr0_3 (V1 m ρ) c))
/-- The twentieth distances when the second call starts. -/
theorem lasts_eq : W3 m ρ c (Proc.devRef .tc main_v1_3) =
    (fun i => out0_4 (sample m c (i 0)) (ix3 0 (i 1) (i 2)) : Vec Ideal S32x1024x1 .f32) :=
  (W3_of m ρ c main_v1_3 (by decide)).trans ((W2_arr m ρ c 4).trans (arr0_4 (V1 m ρ) c))

/-- The second call's result under equal arguments. -/
theorem out1_8_congr {a a' d d' e e' : Vec Ideal S1x1024x3 .f32} {b b' : Vec Ideal S1x1024x9 .f32}
    {f f' : Vec Ideal S1x1024x1 .f32} {g g' : Vec Ideal S125x32 .f32} {h h' k k' : Vec Ideal S1x32 .f32}
    (ha : a = a') (hb : b = b') (hd : d = d') (he : e = e') (hf : f = f') (hg : g = g') (hh : h = h') (hk : k = k') :
    out1_8 a b d e f g h k = out1_8 a' b' d' e' f' g' h' k' := by
  subst ha hb hd he hf hg hh hk
  rfl

/-- The second call's array. -/
theorem conv_eq : W4 m ρ c (Proc.devRef .tc main_v5) =
    (fun i => conv m c (i 0) (ix3 0 (i 1) (i 2)) : Vec Ideal S32x1024x32 .f32) := by
  refine (W4_arr m ρ c 8).trans ((arr1_8 (V3 m ρ) c).trans ?_)
  funext i
  unfold conv
  refine congrFun (out1_8_congr ?_ ?_ ?_ ?_ ?_ ?_ ?_ ?_) _
  · exact congrArg (fun x => blk3 (B := 32) (P := 1024) (C := 3) x (i 0)) (points_eq' m ρ c)
  · exact congrArg (fun x => blk3 (B := 32) (P := 1024) (C := 9) x (i 0)) (frames_eq m ρ c)
  · exact (congrArg (fun x => blk3 (B := 32) (P := 1024) (C := 3) x (i 0)) (sums_eq m ρ c)).trans
      (blk3_one (P := 1024) (C := 3) (fun b => out0_2 (sample m c b)) (i 0))
  · exact (congrArg (fun x => blk3 (B := 32) (P := 1024) (C := 3) x (i 0)) (firsts_eq m ρ c)).trans
      (blk3_one (P := 1024) (C := 3) (fun b => out0_3 (sample m c b)) (i 0))
  · exact (congrArg (fun x => blk3 (B := 32) (P := 1024) (C := 1) x (i 0)) (lasts_eq m ρ c)).trans
      (blk3_one (P := 1024) (C := 1) (fun b => out0_4 (sample m c b)) (i 0))
  · exact table_eq m ρ c
  · exact W3_args m ρ c main_arg3 (by decide)
  · exact bias_eq m ρ c

/-- The second result. -/
theorem head_eq : W6 m ρ c (Proc.devRef .tc main_v11) = head m c := by
  refine (W6_arr m ρ c 7).trans ((arr2_7 (V5 m ρ) c).trans ?_)
  have a5 := W4_args m ρ c main_arg5 (by decide)
  have a6 := W4_args m ρ c main_arg6 (by decide)
  have a8 := W4_args m ρ c main_arg8 (by decide)
  have a10 := W4_args m ρ c main_arg10 (by decide)
  have e6 : V5 m ρ c main_v6 = shapeCast S32768x32 (W4 m ρ c (Proc.devRef .tc main_v5)) shapeCasts_S32x1024x32_S32768x32 := by
    dsimp only [V5]; after_results; rfl
  have e7 : V5 m ρ c main_v7 = shapeCast S1x32 (W4 m ρ c (Proc.devRef .tc main_arg5)) shapeCasts_S32_S1x32 := by
    dsimp only [V5]; after_results; rfl
  have e8 : V5 m ρ c main_v8 = shapeCast S1x32 (W4 m ρ c (Proc.devRef .tc main_arg6)) shapeCasts_S32_S1x32 := by
    dsimp only [V5]; after_results; rfl
  have e9 : V5 m ρ c main_v9 = shapeCast S1x256 (W4 m ρ c (Proc.devRef .tc main_arg8)) shapeCasts_S256_S1x256 := by
    dsimp only [V5]; after_results; rfl
  have e10 : V5 m ρ c main_v10 = shapeCast S1x40 (W4 m ρ c (Proc.devRef .tc main_arg10)) shapeCasts_S40_S1x40 := by
    dsimp only [V5]; after_results; rfl
  have e3 : V5 m ρ c main_arg7 = m ((c : Thread nD τ).loc main_arg7) := W5_args m ρ c main_arg7 (by decide)
  have e5 : V5 m ρ c main_arg9 = m ((c : Thread nD τ).loc main_arg9) := W5_args m ρ c main_arg9 (by decide)
  rw [e6, e7, e8, e9, e10, e3, e5, a5, a6, a8, a10, conv_eq]
  rfl

end Cert.KernelIdeal.Arr
-- ==== Proof.KernelRun.lean ====
module

public import proofs.«01_k».proof.Proof.Reads

/-!
The kernel's run: its two results as values of the arguments.
-/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Cert.KernelIdeal.Arr

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with the two results at their values and the arguments unchanged. -/
theorem run : θ_run defs (onTc (τ := τ) (main (F := Ideal))) ⟨m, fun _ => 0, ρ⟩ (fun r => ∀ c : Dev nD,
      r.2.mem ((c.tc : Thread nD τ).loc main_v1_0) = covs m c
      ∧ r.2.mem ((c.tc : Thread nD τ).loc main_v11) = head m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨(h c _ (mem_uc main_v1_0 (by decide))).trans (covs_eq m ρ c),
       (h c _ (mem_uc main_v11 (by decide))).trans (head_eq m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Arr
-- ==== Proof.Rounds.lean ====
module

public import Idealize.ShloMosaic.Lib.Pipeline.ValueKit
public import Idealize.ShloMosaic.Lib.Pointwise
public import proofs.«01_k».proof.Proof.Gen.KernelIdeal.Frame

/-!
The first call of the kernel, folded back into its rounds.

The body is twenty copies of the same text: find the least entry of each row, the first column that
attains it, the point standing there, its offset, and then put that entry to infinity.  Here the
round is written once, and the four stored blocks are written as sums over the rounds.
-/

@[expose] public section

set_option maxRecDepth 16384

noncomputable section

open Idealize.ShloMosaic Idealize.ShloMosaic.TcCoe Idealize.SL.Sem
open Cert.KernelIdeal Cert.KernelIdeal.Gen

namespace Cert.KernelIdeal.Knn

variable {F : FTy → Type} [FloatOps F]

/-- The column numbers. -/
def io : IVec S1024x1024 32 := iota .tc S1024x1024 32 [1] iota_S1024x1024_d1_w32

/-- The zero column every sum starts from. -/
def zr : FVec F S1024x1 .f32 := broadcast S1024x1 (Scalar.ofBits .f32 0x00000000#32)

/-- The least entry of each row. -/
def mn (d : FVec F S1024x1024 .f32) : FVec F S1024x1 .f32 :=
  shapeCast S1024x1 (multiReduction .minimumf [1] S1024 d 0x7F800000#32 reduces_S1024x1024_S1024
    (.inl rfl) rfl) shapeCasts_S1024_S1024x1

/-- The column number where a row attains its least entry, and 1024 elsewhere. -/
def cand (d : FVec F S1024x1024 .f32) : IVec S1024x1024 32 :=
  select (cmpf .oeq d (broadcastTo S1024x1024 (mn d) broadcasts_S1024x1_S1024x1024)) io
    (broadcast S1024x1024 1024#32)

/-- The first column attaining the least entry, spread over its row. -/
def jb (d : FVec F S1024x1024 .f32) : IVec S1024x1024 32 :=
  broadcastTo S1024x1024 (shapeCast S1024x1 (multiReductionI .minsi [1] S1024 (cand d) 2147483647#32
    reduces_S1024x1024_S1024 rfl) shapeCasts_S1024_S1024x1) broadcasts_S1024x1_S1024x1024

/-- True at the first column attaining the least entry of its row. -/
def oh (d : FVec F S1024x1024 .f32) : IVec S1024x1024 1 := cmpi .eq io (jb d)

/-- The point at that column. -/
def nb (p : FVec F S1024x3 .f32) (d : FVec F S1024x1024 .f32) : FVec F S1024x3 .f32 :=
  matmul dot_S1024x1024_S1024x3_S1024x3_1_0_0_1_n_n none (sitofp .f32 (extui 32 (oh d) natLt_1_32)) p
    (constant S1024x3 .f32 0x00000000#32)

/-- The offset from that point. -/
def off (p : FVec F S1024x3 .f32) (d : FVec F S1024x1024 .f32) : FVec F S1024x3 .f32 :=
  subf p (nb p d)

/-- The distances the next round starts from: the chosen entry of each row put to infinity. -/
def nxt (d : FVec F S1024x1024 .f32) : FVec F S1024x1024 .f32 :=
  select (oh d) (broadcast S1024x1024 (Scalar.ofBits .f32 0x7F800000#32)) d

/-- The first column. -/
def col0 (o : FVec F S1024x3 .f32) : FVec F S1024x1 .f32 :=
  extractStridedSlice S1024x1 ![0, 0] o slices_S1024x3_o0_0_S1024x1

/-- The second column. -/
def col1 (o : FVec F S1024x3 .f32) : FVec F S1024x1 .f32 :=
  extractStridedSlice S1024x1 ![0, 1] o slices_S1024x3_o0_1_S1024x1

/-- The third column. -/
def col2 (o : FVec F S1024x3 .f32) : FVec F S1024x1 .f32 :=
  extractStridedSlice S1024x1 ![0, 2] o slices_S1024x3_o0_2_S1024x1

/-- Three columns side by side. -/
def cat3 (a b c : FVec F S1024x1 .f32) : FVec F S1024x3 .f32 :=
  concatenate S1024x3 1 [⟨S1024x1, a⟩, ⟨S1024x1, b⟩, ⟨S1024x1, c⟩]
    concatenates_S1024x1_S1024x1_S1024x1_S1024x3_d1

/-- The distances round `k` starts from. -/
def rnd (d : FVec F S1024x1024 .f32) : Nat → FVec F S1024x1024 .f32
  | 0 => d
  | k + 1 => nxt (rnd d k)

/-- The sum of a column over the first `n` rounds, in the order of the rounds. -/
def acc (f : FVec F S1024x1024 .f32 → FVec F S1024x1 .f32) (d : FVec F S1024x1024 .f32) :
    Nat → FVec F S1024x1 .f32
  | 0 => zr
  | n + 1 => addf (acc f d n) (f (rnd d n))

/-- The kernel's column numbers. -/
theorem fold219 (x0 : Vec F S1x1024x3 .f32) : k0_pay219 x0 = io := rfl

/-! Each stored or handed-on value of the first call, in terms of the distances its round starts
from.  Each is the definition read once. -/

/-- One column of the offsets of a round. -/
theorem pay21 (d : FVec F S1024x1024 .f32) (p : FVec F S1024x3 .f32) : k0_pay21 p io (cand d) = (col0 (off p d)) := rfl
/-- One column of the offsets of a round. -/
theorem pay22 (d : FVec F S1024x1024 .f32) (p : FVec F S1024x3 .f32) : k0_pay22 p io (cand d) = (col1 (off p d)) := rfl
/-- One column of the offsets of a round. -/
theorem pay23 (d : FVec F S1024x1024 .f32) (p : FVec F S1024x3 .f32) : k0_pay23 p io (cand d) = (col2 (off p d)) := rfl
/-- A sum of offset products, carried on. -/
theorem pay24 (d : FVec F S1024x1024 .f32) (p : FVec F S1024x3 .f32) (v20 : FVec F S1024x1 .f32) : k0_pay24 p io v20 (cand d) = (addf v20 (mulf (col0 (off p d)) (col1 (off p d)))) := rfl
/-- A sum of offset products, carried on. -/
theorem pay25 (d : FVec F S1024x1024 .f32) (p : FVec F S1024x3 .f32) (v21 : FVec F S1024x1 .f32) : k0_pay25 p io v21 (cand d) = (addf v21 (mulf (col0 (off p d)) (col2 (off p d)))) := rfl
/-- A sum of offset products, carried on. -/
theorem pay26 (d : FVec F S1024x1024 .f32) (p : FVec F S1024x3 .f32) (v22 : FVec F S1024x1 .f32) : k0_pay26 p io v22 (cand d) = (addf v22 (mulf (col1 (off p d)) (col0 (off p d)))) := rfl
/-- A sum of offset products, carried on. -/
theorem pay27 (d : FVec F S1024x1024 .f32) (p : FVec F S1024x3 .f32) (v23 : FVec F S1024x1 .f32) : k0_pay27 p io v23 (cand d) = (addf v23 (mulf (col1 (off p d)) (col1 (off p d)))) := rfl
/-- A sum of offset products, carried on. -/
theorem pay28 (d : FVec F S1024x1024 .f32) (p : FVec F S1024x3 .f32) (v24 : FVec F S1024x1 .f32) : k0_pay28 p io v24 (cand d) = (addf v24 (mulf (col1 (off p d)) (col2 (off p d)))) := rfl
/-- A sum of offset products, carried on. -/
theorem pay29 (d : FVec F S1024x1024 .f32) (p : FVec F S1024x3 .f32) (v25 : FVec F S1024x1 .f32) : k0_pay29 p io v25 (cand d) = (addf v25 (mulf (col2 (off p d)) (col0 (off p d)))) := rfl
/-- A sum of offset products, carried on. -/
theorem pay30 (d : FVec F S1024x1024 .f32) (p : FVec F S1024x3 .f32) (v26 : FVec F S1024x1 .f32) : k0_pay30 p io v26 (cand d) = (addf v26 (mulf (col2 (off p d)) (col1 (off p d)))) := rfl
/-- A sum of offset products, carried on. -/
theorem pay31 (d : FVec F S1024x1024 .f32) (p : FVec F S1024x3 .f32) (v27 : FVec F S1024x1 .f32) : k0_pay31 p io v27 (cand d) = (addf v27 (mulf (col2 (off p d)) (col2 (off p d)))) := rfl
/-- A sum of offsets, carried on. -/
theorem pay32 (d : FVec F S1024x1024 .f32) (p : FVec F S1024x3 .f32) (v28 : FVec F S1024x1 .f32) : k0_pay32 p io v28 (cand d) = (addf v28 (col0 (off p d))) := rfl
/-- A sum of offsets, carried on. -/
theorem pay33 (d : FVec F S1024x1024 .f32) (p : FVec F S1024x3 .f32) (v29 : FVec F S1024x1 .f32) : k0_pay33 p io v29 (cand d) = (addf v29 (col1 (off p d))) := rfl
/-- A sum of offsets, carried on. -/
theorem pay34 (d : FVec F S1024x1024 .f32) (p : FVec F S1024x3 .f32) (v30 : FVec F S1024x1 .f32) : k0_pay34 p io v30 (cand d) = (addf v30 (col2 (off p d))) := rfl
/-- Distances a later round starts from. -/
theorem pay35 (d : FVec F S1024x1024 .f32) : k0_pay35 io d (cand d) = (nxt d) := rfl
/-- The chosen column of a round. -/
theorem pay36 (d : FVec F S1024x1024 .f32) : k0_pay36 io d (cand d) = (oh (nxt d)) := rfl
/-- One column of the offsets of a round. -/
theorem pay38 (d : FVec F S1024x1024 .f32) (p : FVec F S1024x3 .f32) : k0_pay38 p io d (cand d) = (col0 (off p (nxt d))) := rfl
/-- One column of the offsets of a round. -/
theorem pay39 (d : FVec F S1024x1024 .f32) (p : FVec F S1024x3 .f32) : k0_pay39 p io d (cand d) = (col1 (off p (nxt d))) := rfl
/-- One column of the offsets of a round. -/
theorem pay40 (d : FVec F S1024x1024 .f32) (p : FVec F S1024x3 .f32) : k0_pay40 p io d (cand d) = (col2 (off p (nxt d))) := rfl
/-- A sum of offset products, carried on. -/
theorem pay41 (d : FVec F S1024x1024 .f32) (p : FVec F S1024x3 .f32) (v19 : FVec F S1024x1 .f32) : k0_pay41 p io d v19 (cand d) = (addf (addf v19 (mulf (col0 (off p d)) (col0 (off p d)))) (mulf (col0 (off p (nxt d))) (col0 (off p (nxt d))))) := rfl
/-- A product of two offset columns of a round. -/
theorem pay42 (d : FVec F S1024x1024 .f32) (p : FVec F S1024x3 .f32) : k0_pay42 p io d (cand d) = (mulf (col0 (off p (nxt d))) (col1 (off p (nxt d)))) := rfl
/-- Distances a later round starts from. -/
theorem pay46 (d : FVec F S1024x1024 .f32) : k0_pay46 d (oh d) = (nxt d) := rfl
/-- The chosen column of a round. -/
theorem pay47 (d : FVec F S1024x1024 .f32) : k0_pay47 io d (oh d) = (oh (nxt d)) := rfl
/-- One column of the offsets of a round. -/
theorem pay49 (d : FVec F S1024x1024 .f32) (p : FVec F S1024x3 .f32) : k0_pay49 p io d (oh d) = (col0 (off p (nxt d))) := rfl
/-- One column of the offsets of a round. -/
theorem pay50 (d : FVec F S1024x1024 .f32) (p : FVec F S1024x3 .f32) : k0_pay50 p io d (oh d) = (col1 (off p (nxt d))) := rfl
/-- One column of the offsets of a round. -/
theorem pay51 (d : FVec F S1024x1024 .f32) (p : FVec F S1024x3 .f32) : k0_pay51 p io d (oh d) = (col2 (off p (nxt d))) := rfl
/-- A sum of offset products, carried on. -/
theorem pay52 (d : FVec F S1024x1024 .f32) (p : FVec F S1024x3 .f32) (v89 : FVec F S1024x1 .f32) : k0_pay52 p io d (oh d) v89 = (addf v89 (mulf (col0 (off p (nxt d))) (col0 (off p (nxt d))))) := rfl
/-- A sum of offset products, carried on. -/
theorem pay53 (d : FVec F S1024x1024 .f32) (p : FVec F S1024x3 .f32) (v51 : FVec F S1024x1 .f32) (v90 : FVec F S1024x1 .f32) : k0_pay53 p io v51 d (oh d) v90 = (addf (addf v51 v90) (mulf (col0 (off p (nxt d))) (col1 (off p (nxt d))))) := rfl
/-- A sum of offset products, carried on. -/
theorem pay54 (d : FVec F S1024x1024 .f32) (p : FVec F S1024x3 .f32) (v53 : FVec F S1024x1 .f32) (v85 : FVec F S1024x1 .f32) (v87 : FVec F S1024x1 .f32) : k0_pay54 p io v53 d (oh d) v85 v87 = (addf (addf v53 (mulf v85 v87)) (mulf (col0 (off p (nxt d))) (col2 (off p (nxt d))))) := rfl
/-- A sum of offset products, carried on. -/
theorem pay55 (d : FVec F S1024x1024 .f32) (p : FVec F S1024x3 .f32) (v55 : FVec F S1024x1 .f32) (v85 : FVec F S1024x1 .f32) (v86 : FVec F S1024x1 .f32) : k0_pay55 p io v55 d (oh d) v85 v86 = (addf (addf v55 (mulf v86 v85)) (mulf (col1 (off p (nxt d))) (col0 (off p (nxt d))))) := rfl
/-- A sum of offset products, carried on. -/
theorem pay56 (d : FVec F S1024x1024 .f32) (p : FVec F S1024x3 .f32) (v57 : FVec F S1024x1 .f32) (v86 : FVec F S1024x1 .f32) : k0_pay56 p io v57 d (oh d) v86 = (addf (addf v57 (mulf v86 v86)) (mulf (col1 (off p (nxt d))) (col1 (off p (nxt d))))) := rfl
/-- A sum of offset products, carried on. -/
theorem pay57 (d : FVec F S1024x1024 .f32) (p : FVec F S1024x3 .f32) (v59 : FVec F S1024x1 .f32) (v86 : FVec F S1024x1 .f32) (v87 : FVec F S1024x1 .f32) : k0_pay57 p io v59 d (oh d) v86 v87 = (addf (addf v59 (mulf v86 v87)) (mulf (col1 (off p (nxt d))) (col2 (off p (nxt d))))) := rfl
/-- A sum of offset products, carried on. -/
theorem pay58 (d : FVec F S1024x1024 .f32) (p : FVec F S1024x3 .f32) (v61 : FVec F S1024x1 .f32) (v85 : FVec F S1024x1 .f32) (v87 : FVec F S1024x1 .f32) : k0_pay58 p io v61 d (oh d) v85 v87 = (addf (addf v61 (mulf v87 v85)) (mulf (col2 (off p (nxt d))) (col0 (off p (nxt d))))) := rfl
/-- A sum of offset products, carried on. -/
theorem pay59 (d : FVec F S1024x1024 .f32) (p : FVec F S1024x3 .f32) (v63 : FVec F S1024x1 .f32) (v86 : FVec F S1024x1 .f32) (v87 : FVec F S1024x1 .f32) : k0_pay59 p io v63 d (oh d) v86 v87 = (addf (addf v63 (mulf v87 v86)) (mulf (col2 (off p (nxt d))) (col1 (off p (nxt d))))) := rfl
/-- A sum of offset products, carried on. -/
theorem pay60 (d : FVec F S1024x1024 .f32) (p : FVec F S1024x3 .f32) (v65 : FVec F S1024x1 .f32) (v87 : FVec F S1024x1 .f32) : k0_pay60 p io v65 d (oh d) v87 = (addf (addf v65 (mulf v87 v87)) (mulf (col2 (off p (nxt d))) (col2 (off p (nxt d))))) := rfl
/-- A sum of offset products, carried on. -/
theorem pay67 (d : FVec F S1024x1024 .f32) (p : FVec F S1024x3 .f32) (v129 : FVec F S1024x1 .f32) : k0_pay67 p io d (oh d) v129 = (addf v129 (mulf (col0 (off p (nxt d))) (col0 (off p (nxt d))))) := rfl
/-- A sum of offset products, carried on. -/
theorem pay68 (d : FVec F S1024x1024 .f32) (p : FVec F S1024x3 .f32) (v131 : FVec F S1024x1 .f32) : k0_pay68 p io d (oh d) v131 = (addf v131 (mulf (col0 (off p (nxt d))) (col1 (off p (nxt d))))) := rfl
/-- A sum of offset products, carried on. -/
theorem pay69 (d : FVec F S1024x1024 .f32) (p : FVec F S1024x3 .f32) (v133 : FVec F S1024x1 .f32) : k0_pay69 p io d (oh d) v133 = (addf v133 (mulf (col0 (off p (nxt d))) (col2 (off p (nxt d))))) := rfl
/-- A sum of offset products, carried on. -/
theorem pay70 (d : FVec F S1024x1024 .f32) (p : FVec F S1024x3 .f32) (v135 : FVec F S1024x1 .f32) : k0_pay70 p io d (oh d) v135 = (addf v135 (mulf (col1 (off p (nxt d))) (col0 (off p (nxt d))))) := rfl
/-- A sum of offset products, carried on. -/
theorem pay71 (d : FVec F S1024x1024 .f32) (p : FVec F S1024x3 .f32) (v137 : FVec F S1024x1 .f32) : k0_pay71 p io d (oh d) v137 = (addf v137 (mulf (col1 (off p (nxt d))) (col1 (off p (nxt d))))) := rfl
/-- A sum of offset products, carried on. -/
theorem pay72 (d : FVec F S1024x1024 .f32) (p : FVec F S1024x3 .f32) (v139 : FVec F S1024x1 .f32) : k0_pay72 p io d (oh d) v139 = (addf v139 (mulf (col1 (off p (nxt d))) (col2 (off p (nxt d))))) := rfl
/-- A sum of offset products, carried on. -/
theorem pay73 (d : FVec F S1024x1024 .f32) (p : FVec F S1024x3 .f32) (v141 : FVec F S1024x1 .f32) : k0_pay73 p io d (oh d) v141 = (addf v141 (mulf (col2 (off p (nxt d))) (col0 (off p (nxt d))))) := rfl
/-- A sum of offset products, carried on. -/
theorem pay74 (d : FVec F S1024x1024 .f32) (p : FVec F S1024x3 .f32) (v143 : FVec F S1024x1 .f32) : k0_pay74 p io d (oh d) v143 = (addf v143 (mulf (col2 (off p (nxt d))) (col1 (off p (nxt d))))) := rfl
/-- A sum of offset products, carried on. -/
theorem pay75 (d : FVec F S1024x1024 .f32) (p : FVec F S1024x3 .f32) (v145 : FVec F S1024x1 .f32) : k0_pay75 p io d (oh d) v145 = (addf v145 (mulf (col2 (off p (nxt d))) (col2 (off p (nxt d))))) := rfl
/-- A sum of offsets, carried on. -/
theorem pay76 (d : FVec F S1024x1024 .f32) (p : FVec F S1024x3 .f32) (v106 : FVec F S1024x1 .f32) (v125 : FVec F S1024x1 .f32) : k0_pay76 p io v106 d (oh d) v125 = (addf (addf v106 v125) (col0 (off p (nxt d)))) := rfl
/-- A sum of offsets, carried on. -/
theorem pay77 (d : FVec F S1024x1024 .f32) (p : FVec F S1024x3 .f32) (v107 : FVec F S1024x1 .f32) (v126 : FVec F S1024x1 .f32) : k0_pay77 p io v107 d (oh d) v126 = (addf (addf v107 v126) (col1 (off p (nxt d)))) := rfl
/-- A sum of offsets, carried on. -/
theorem pay78 (d : FVec F S1024x1024 .f32) (p : FVec F S1024x3 .f32) (v108 : FVec F S1024x1 .f32) (v127 : FVec F S1024x1 .f32) : k0_pay78 p io v108 d (oh d) v127 = (addf (addf v108 v127) (col2 (off p (nxt d)))) := rfl
/-- Distances a later round starts from. -/
theorem pay79 (d : FVec F S1024x1024 .f32) : k0_pay79 io d (oh d) = (nxt (nxt d)) := rfl
/-- Candidate columns of a round. -/
theorem pay80 (d : FVec F S1024x1024 .f32) : k0_pay80 io d (oh d) = (cand (nxt (nxt d))) := rfl
/-- A sum of offset products, carried on. -/
theorem pay86 (d : FVec F S1024x1024 .f32) (p : FVec F S1024x3 .f32) (v171 : FVec F S1024x1 .f32) : k0_pay86 p io v171 (cand d) = (addf v171 (mulf (col0 (off p d)) (col1 (off p d)))) := rfl
/-- A sum of offset products, carried on. -/
theorem pay87 (d : FVec F S1024x1024 .f32) (p : FVec F S1024x3 .f32) (v173 : FVec F S1024x1 .f32) : k0_pay87 p io v173 (cand d) = (addf v173 (mulf (col0 (off p d)) (col2 (off p d)))) := rfl
/-- A sum of offset products, carried on. -/
theorem pay88 (d : FVec F S1024x1024 .f32) (p : FVec F S1024x3 .f32) (v175 : FVec F S1024x1 .f32) : k0_pay88 p io v175 (cand d) = (addf v175 (mulf (col1 (off p d)) (col0 (off p d)))) := rfl
/-- A sum of offset products, carried on. -/
theorem pay89 (d : FVec F S1024x1024 .f32) (p : FVec F S1024x3 .f32) (v177 : FVec F S1024x1 .f32) : k0_pay89 p io v177 (cand d) = (addf v177 (mulf (col1 (off p d)) (col1 (off p d)))) := rfl
/-- A sum of offset products, carried on. -/
theorem pay90 (d : FVec F S1024x1024 .f32) (p : FVec F S1024x3 .f32) (v179 : FVec F S1024x1 .f32) : k0_pay90 p io v179 (cand d) = (addf v179 (mulf (col1 (off p d)) (col2 (off p d)))) := rfl
/-- A sum of offset products, carried on. -/
theorem pay91 (d : FVec F S1024x1024 .f32) (p : FVec F S1024x3 .f32) (v181 : FVec F S1024x1 .f32) : k0_pay91 p io v181 (cand d) = (addf v181 (mulf (col2 (off p d)) (col0 (off p d)))) := rfl
/-- A sum of offset products, carried on. -/
theorem pay92 (d : FVec F S1024x1024 .f32) (p : FVec F S1024x3 .f32) (v183 : FVec F S1024x1 .f32) : k0_pay92 p io v183 (cand d) = (addf v183 (mulf (col2 (off p d)) (col1 (off p d)))) := rfl
/-- A sum of offset products, carried on. -/
theorem pay93 (d : FVec F S1024x1024 .f32) (p : FVec F S1024x3 .f32) (v185 : FVec F S1024x1 .f32) : k0_pay93 p io v185 (cand d) = (addf v185 (mulf (col2 (off p d)) (col2 (off p d)))) := rfl
/-- A sum of offsets, carried on. -/
theorem pay94 (d : FVec F S1024x1024 .f32) (p : FVec F S1024x3 .f32) (v186 : FVec F S1024x1 .f32) : k0_pay94 p io v186 (cand d) = (addf v186 (col0 (off p d))) := rfl
/-- A sum of offsets, carried on. -/
theorem pay95 (d : FVec F S1024x1024 .f32) (p : FVec F S1024x3 .f32) (v187 : FVec F S1024x1 .f32) : k0_pay95 p io v187 (cand d) = (addf v187 (col1 (off p d))) := rfl
/-- A sum of offsets, carried on. -/
theorem pay96 (d : FVec F S1024x1024 .f32) (p : FVec F S1024x3 .f32) (v188 : FVec F S1024x1 .f32) : k0_pay96 p io v188 (cand d) = (addf v188 (col2 (off p d))) := rfl
/-- Distances a later round starts from. -/
theorem pay97 (d : FVec F S1024x1024 .f32) : k0_pay97 io d (cand d) = (nxt d) := rfl
/-- The chosen column of a round. -/
theorem pay98 (d : FVec F S1024x1024 .f32) : k0_pay98 io d (cand d) = (oh (nxt d)) := rfl
/-- One column of the offsets of a round. -/
theorem pay100 (d : FVec F S1024x1024 .f32) (p : FVec F S1024x3 .f32) : k0_pay100 p io d (cand d) = (col0 (off p (nxt d))) := rfl
/-- One column of the offsets of a round. -/
theorem pay101 (d : FVec F S1024x1024 .f32) (p : FVec F S1024x3 .f32) : k0_pay101 p io d (cand d) = (col1 (off p (nxt d))) := rfl
/-- One column of the offsets of a round. -/
theorem pay102 (d : FVec F S1024x1024 .f32) (p : FVec F S1024x3 .f32) : k0_pay102 p io d (cand d) = (col2 (off p (nxt d))) := rfl
/-- A sum of offset products, carried on. -/
theorem pay103 (d : FVec F S1024x1024 .f32) (p : FVec F S1024x3 .f32) (v169 : FVec F S1024x1 .f32) : k0_pay103 p io v169 d (cand d) = (addf (addf v169 (mulf (col0 (off p d)) (col0 (off p d)))) (mulf (col0 (off p (nxt d))) (col0 (off p (nxt d))))) := rfl
/-- A product of two offset columns of a round. -/
theorem pay104 (d : FVec F S1024x1024 .f32) (p : FVec F S1024x3 .f32) : k0_pay104 p io d (cand d) = (mulf (col0 (off p (nxt d))) (col1 (off p (nxt d)))) := rfl
/-- Distances a later round starts from. -/
theorem pay108 (d : FVec F S1024x1024 .f32) : k0_pay108 d (oh d) = (nxt d) := rfl
/-- The chosen column of a round. -/
theorem pay109 (d : FVec F S1024x1024 .f32) : k0_pay109 io d (oh d) = (oh (nxt d)) := rfl
/-- One column of the offsets of a round. -/
theorem pay111 (d : FVec F S1024x1024 .f32) (p : FVec F S1024x3 .f32) : k0_pay111 p io d (oh d) = (col0 (off p (nxt d))) := rfl
/-- One column of the offsets of a round. -/
theorem pay112 (d : FVec F S1024x1024 .f32) (p : FVec F S1024x3 .f32) : k0_pay112 p io d (oh d) = (col1 (off p (nxt d))) := rfl
/-- One column of the offsets of a round. -/
theorem pay113 (d : FVec F S1024x1024 .f32) (p : FVec F S1024x3 .f32) : k0_pay113 p io d (oh d) = (col2 (off p (nxt d))) := rfl
/-- A sum of offset products, carried on. -/
theorem pay114 (d : FVec F S1024x1024 .f32) (p : FVec F S1024x3 .f32) (v249 : FVec F S1024x1 .f32) : k0_pay114 p io d (oh d) v249 = (addf v249 (mulf (col0 (off p (nxt d))) (col0 (off p (nxt d))))) := rfl
/-- A sum of offset products, carried on. -/
theorem pay115 (d : FVec F S1024x1024 .f32) (p : FVec F S1024x3 .f32) (v211 : FVec F S1024x1 .f32) (v250 : FVec F S1024x1 .f32) : k0_pay115 p io v211 d (oh d) v250 = (addf (addf v211 v250) (mulf (col0 (off p (nxt d))) (col1 (off p (nxt d))))) := rfl
/-- A sum of offset products, carried on. -/
theorem pay116 (d : FVec F S1024x1024 .f32) (p : FVec F S1024x3 .f32) (v213 : FVec F S1024x1 .f32) (v245 : FVec F S1024x1 .f32) (v247 : FVec F S1024x1 .f32) : k0_pay116 p io v213 d (oh d) v245 v247 = (addf (addf v213 (mulf v245 v247)) (mulf (col0 (off p (nxt d))) (col2 (off p (nxt d))))) := rfl
/-- A sum of offset products, carried on. -/
theorem pay117 (d : FVec F S1024x1024 .f32) (p : FVec F S1024x3 .f32) (v215 : FVec F S1024x1 .f32) (v245 : FVec F S1024x1 .f32) (v246 : FVec F S1024x1 .f32) : k0_pay117 p io v215 d (oh d) v245 v246 = (addf (addf v215 (mulf v246 v245)) (mulf (col1 (off p (nxt d))) (col0 (off p (nxt d))))) := rfl
/-- A sum of offset products, carried on. -/
theorem pay118 (d : FVec F S1024x1024 .f32) (p : FVec F S1024x3 .f32) (v217 : FVec F S1024x1 .f32) (v246 : FVec F S1024x1 .f32) : k0_pay118 p io v217 d (oh d) v246 = (addf (addf v217 (mulf v246 v246)) (mulf (col1 (off p (nxt d))) (col1 (off p (nxt d))))) := rfl
/-- A sum of offset products, carried on. -/
theorem pay119 (d : FVec F S1024x1024 .f32) (p : FVec F S1024x3 .f32) (v219 : FVec F S1024x1 .f32) (v246 : FVec F S1024x1 .f32) (v247 : FVec F S1024x1 .f32) : k0_pay119 p io v219 d (oh d) v246 v247 = (addf (addf v219 (mulf v246 v247)) (mulf (col1 (off p (nxt d))) (col2 (off p (nxt d))))) := rfl
/-- A sum of offset products, carried on. -/
theorem pay120 (d : FVec F S1024x1024 .f32) (p : FVec F S1024x3 .f32) (v221 : FVec F S1024x1 .f32) (v245 : FVec F S1024x1 .f32) (v247 : FVec F S1024x1 .f32) : k0_pay120 p io v221 d (oh d) v245 v247 = (addf (addf v221 (mulf v247 v245)) (mulf (col2 (off p (nxt d))) (col0 (off p (nxt d))))) := rfl
/-- A sum of offset products, carried on. -/
theorem pay121 (d : FVec F S1024x1024 .f32) (p : FVec F S1024x3 .f32) (v223 : FVec F S1024x1 .f32) (v246 : FVec F S1024x1 .f32) (v247 : FVec F S1024x1 .f32) : k0_pay121 p io v223 d (oh d) v246 v247 = (addf (addf v223 (mulf v247 v246)) (mulf (col2 (off p (nxt d))) (col1 (off p (nxt d))))) := rfl
/-- A sum of offset products, carried on. -/
theorem pay122 (d : FVec F S1024x1024 .f32) (p : FVec F S1024x3 .f32) (v225 : FVec F S1024x1 .f32) (v247 : FVec F S1024x1 .f32) : k0_pay122 p io v225 d (oh d) v247 = (addf (addf v225 (mulf v247 v247)) (mulf (col2 (off p (nxt d))) (col2 (off p (nxt d))))) := rfl
/-- A sum of offset products, carried on. -/
theorem pay129 (d : FVec F S1024x1024 .f32) (p : FVec F S1024x3 .f32) (v289 : FVec F S1024x1 .f32) : k0_pay129 p io d (oh d) v289 = (addf v289 (mulf (col0 (off p (nxt d))) (col0 (off p (nxt d))))) := rfl
/-- A sum of offset products, carried on. -/
theorem pay130 (d : FVec F S1024x1024 .f32) (p : FVec F S1024x3 .f32) (v291 : FVec F S1024x1 .f32) : k0_pay130 p io d (oh d) v291 = (addf v291 (mulf (col0 (off p (nxt d))) (col1 (off p (nxt d))))) := rfl
/-- A sum of offset products, carried on. -/
theorem pay131 (d : FVec F S1024x1024 .f32) (p : FVec F S1024x3 .f32) (v293 : FVec F S1024x1 .f32) : k0_pay131 p io d (oh d) v293 = (addf v293 (mulf (col0 (off p (nxt d))) (col2 (off p (nxt d))))) := rfl
/-- A sum of offset products, carried on. -/
theorem pay132 (d : FVec F S1024x1024 .f32) (p : FVec F S1024x3 .f32) (v295 : FVec F S1024x1 .f32) : k0_pay132 p io d (oh d) v295 = (addf v295 (mulf (col1 (off p (nxt d))) (col0 (off p (nxt d))))) := rfl
/-- A sum of offset products, carried on. -/
theorem pay133 (d : FVec F S1024x1024 .f32) (p : FVec F S1024x3 .f32) (v297 : FVec F S1024x1 .f32) : k0_pay133 p io d (oh d) v297 = (addf v297 (mulf (col1 (off p (nxt d))) (col1 (off p (nxt d))))) := rfl
/-- A sum of offset products, carried on. -/
theorem pay134 (d : FVec F S1024x1024 .f32) (p : FVec F S1024x3 .f32) (v299 : FVec F S1024x1 .f32) : k0_pay134 p io d (oh d) v299 = (addf v299 (mulf (col1 (off p (nxt d))) (col2 (off p (nxt d))))) := rfl
/-- A sum of offset products, carried on. -/
theorem pay135 (d : FVec F S1024x1024 .f32) (p : FVec F S1024x3 .f32) (v301 : FVec F S1024x1 .f32) : k0_pay135 p io d (oh d) v301 = (addf v301 (mulf (col2 (off p (nxt d))) (col0 (off p (nxt d))))) := rfl
/-- A sum of offset products, carried on. -/
theorem pay136 (d : FVec F S1024x1024 .f32) (p : FVec F S1024x3 .f32) (v303 : FVec F S1024x1 .f32) : k0_pay136 p io d (oh d) v303 = (addf v303 (mulf (col2 (off p (nxt d))) (col1 (off p (nxt d))))) := rfl
/-- A sum of offset products, carried on. -/
theorem pay137 (d : FVec F S1024x1024 .f32) (p : FVec F S1024x3 .f32) (v305 : FVec F S1024x1 .f32) : k0_pay137 p io d (oh d) v305 = (addf v305 (mulf (col2 (off p (nxt d))) (col2 (off p (nxt d))))) := rfl
/-- A sum of offsets, carried on. -/
theorem pay138 (d : FVec F S1024x1024 .f32) (p : FVec F S1024x3 .f32) (v266 : FVec F S1024x1 .f32) (v285 : FVec F S1024x1 .f32) : k0_pay138 p io v266 d (oh d) v285 = (addf (addf v266 v285) (col0 (off p (nxt d)))) := rfl
/-- A sum of offsets, carried on. -/
theorem pay139 (d : FVec F S1024x1024 .f32) (p : FVec F S1024x3 .f32) (v267 : FVec F S1024x1 .f32) (v286 : FVec F S1024x1 .f32) : k0_pay139 p io v267 d (oh d) v286 = (addf (addf v267 v286) (col1 (off p (nxt d)))) := rfl
/-- A sum of offsets, carried on. -/
theorem pay140 (d : FVec F S1024x1024 .f32) (p : FVec F S1024x3 .f32) (v268 : FVec F S1024x1 .f32) (v287 : FVec F S1024x1 .f32) : k0_pay140 p io v268 d (oh d) v287 = (addf (addf v268 v287) (col2 (off p (nxt d)))) := rfl
/-- Distances a later round starts from. -/
theorem pay141 (d : FVec F S1024x1024 .f32) : k0_pay141 io d (oh d) = (nxt (nxt d)) := rfl
/-- Candidate columns of a round. -/
theorem pay142 (d : FVec F S1024x1024 .f32) : k0_pay142 io d (oh d) = (cand (nxt (nxt d))) := rfl
/-- A sum of offset products, carried on. -/
theorem pay148 (d : FVec F S1024x1024 .f32) (p : FVec F S1024x3 .f32) (v331 : FVec F S1024x1 .f32) : k0_pay148 p io v331 (cand d) = (addf v331 (mulf (col0 (off p d)) (col1 (off p d)))) := rfl
/-- A sum of offset products, carried on. -/
theorem pay149 (d : FVec F S1024x1024 .f32) (p : FVec F S1024x3 .f32) (v333 : FVec F S1024x1 .f32) : k0_pay149 p io v333 (cand d) = (addf v333 (mulf (col0 (off p d)) (col2 (off p d)))) := rfl
/-- A sum of offset products, carried on. -/
theorem pay150 (d : FVec F S1024x1024 .f32) (p : FVec F S1024x3 .f32) (v335 : FVec F S1024x1 .f32) : k0_pay150 p io v335 (cand d) = (addf v335 (mulf (col1 (off p d)) (col0 (off p d)))) := rfl
/-- A sum of offset products, carried on. -/
theorem pay151 (d : FVec F S1024x1024 .f32) (p : FVec F S1024x3 .f32) (v337 : FVec F S1024x1 .f32) : k0_pay151 p io v337 (cand d) = (addf v337 (mulf (col1 (off p d)) (col1 (off p d)))) := rfl
/-- A sum of offset products, carried on. -/
theorem pay152 (d : FVec F S1024x1024 .f32) (p : FVec F S1024x3 .f32) (v339 : FVec F S1024x1 .f32) : k0_pay152 p io v339 (cand d) = (addf v339 (mulf (col1 (off p d)) (col2 (off p d)))) := rfl
/-- A sum of offset products, carried on. -/
theorem pay153 (d : FVec F S1024x1024 .f32) (p : FVec F S1024x3 .f32) (v341 : FVec F S1024x1 .f32) : k0_pay153 p io v341 (cand d) = (addf v341 (mulf (col2 (off p d)) (col0 (off p d)))) := rfl
/-- A sum of offset products, carried on. -/
theorem pay154 (d : FVec F S1024x1024 .f32) (p : FVec F S1024x3 .f32) (v343 : FVec F S1024x1 .f32) : k0_pay154 p io v343 (cand d) = (addf v343 (mulf (col2 (off p d)) (col1 (off p d)))) := rfl
/-- A sum of offset products, carried on. -/
theorem pay155 (d : FVec F S1024x1024 .f32) (p : FVec F S1024x3 .f32) (v345 : FVec F S1024x1 .f32) : k0_pay155 p io v345 (cand d) = (addf v345 (mulf (col2 (off p d)) (col2 (off p d)))) := rfl
/-- A sum of offsets, carried on. -/
theorem pay156 (d : FVec F S1024x1024 .f32) (p : FVec F S1024x3 .f32) (v346 : FVec F S1024x1 .f32) : k0_pay156 p io v346 (cand d) = (addf v346 (col0 (off p d))) := rfl
/-- A sum of offsets, carried on. -/
theorem pay157 (d : FVec F S1024x1024 .f32) (p : FVec F S1024x3 .f32) (v347 : FVec F S1024x1 .f32) : k0_pay157 p io v347 (cand d) = (addf v347 (col1 (off p d))) := rfl
/-- A sum of offsets, carried on. -/
theorem pay158 (d : FVec F S1024x1024 .f32) (p : FVec F S1024x3 .f32) (v348 : FVec F S1024x1 .f32) : k0_pay158 p io v348 (cand d) = (addf v348 (col2 (off p d))) := rfl
/-- Distances a later round starts from. -/
theorem pay159 (d : FVec F S1024x1024 .f32) : k0_pay159 io d (cand d) = (nxt d) := rfl
/-- The chosen column of a round. -/
theorem pay160 (d : FVec F S1024x1024 .f32) : k0_pay160 io d (cand d) = (oh (nxt d)) := rfl
/-- One column of the offsets of a round. -/
theorem pay162 (d : FVec F S1024x1024 .f32) (p : FVec F S1024x3 .f32) : k0_pay162 p io d (cand d) = (col0 (off p (nxt d))) := rfl
/-- One column of the offsets of a round. -/
theorem pay163 (d : FVec F S1024x1024 .f32) (p : FVec F S1024x3 .f32) : k0_pay163 p io d (cand d) = (col1 (off p (nxt d))) := rfl
/-- One column of the offsets of a round. -/
theorem pay164 (d : FVec F S1024x1024 .f32) (p : FVec F S1024x3 .f32) : k0_pay164 p io d (cand d) = (col2 (off p (nxt d))) := rfl
/-- A sum of offset products, carried on. -/
theorem pay165 (d : FVec F S1024x1024 .f32) (p : FVec F S1024x3 .f32) (v329 : FVec F S1024x1 .f32) : k0_pay165 p io v329 d (cand d) = (addf (addf v329 (mulf (col0 (off p d)) (col0 (off p d)))) (mulf (col0 (off p (nxt d))) (col0 (off p (nxt d))))) := rfl
/-- A product of two offset columns of a round. -/
theorem pay166 (d : FVec F S1024x1024 .f32) (p : FVec F S1024x3 .f32) : k0_pay166 p io d (cand d) = (mulf (col0 (off p (nxt d))) (col1 (off p (nxt d)))) := rfl
/-- A sum of offsets, carried on. -/
theorem pay178 (d : FVec F S1024x1024 .f32) (p : FVec F S1024x3 .f32) (v386 : FVec F S1024x1 .f32) (v405 : FVec F S1024x1 .f32) : k0_pay178 p io v386 d (oh d) v405 = (addf (addf v386 v405) (col0 (off p (nxt d)))) := rfl
/-- A sum of offsets, carried on. -/
theorem pay179 (d : FVec F S1024x1024 .f32) (p : FVec F S1024x3 .f32) (v387 : FVec F S1024x1 .f32) (v406 : FVec F S1024x1 .f32) : k0_pay179 p io v387 d (oh d) v406 = (addf (addf v387 v406) (col1 (off p (nxt d)))) := rfl
/-- A sum of offsets, carried on. -/
theorem pay180 (d : FVec F S1024x1024 .f32) (p : FVec F S1024x3 .f32) (v388 : FVec F S1024x1 .f32) (v407 : FVec F S1024x1 .f32) : k0_pay180 p io v388 d (oh d) v407 = (addf (addf v388 v407) (col2 (off p (nxt d)))) := rfl
/-- Distances a later round starts from. -/
theorem pay181 (d : FVec F S1024x1024 .f32) : k0_pay181 io d (oh d) = (nxt (nxt d)) := rfl
/-- The chosen column number of a round. -/
theorem pay182 (d : FVec F S1024x1024 .f32) : k0_pay182 io d (oh d) = (jb (nxt (nxt d))) := rfl
/-- A sum of offsets, carried on. -/
theorem pay188 (d : FVec F S1024x1024 .f32) (p : FVec F S1024x3 .f32) (v448 : FVec F S1024x1 .f32) : k0_pay188 p io v448 d (jb d) = (addf (addf v448 (col0 (off p d))) (col0 (off p (nxt d)))) := rfl
/-- A sum of offsets, carried on. -/
theorem pay189 (d : FVec F S1024x1024 .f32) (p : FVec F S1024x3 .f32) (v449 : FVec F S1024x1 .f32) : k0_pay189 p io v449 d (jb d) = (addf (addf v449 (col1 (off p d))) (col1 (off p (nxt d)))) := rfl
/-- A sum of offsets, carried on. -/
theorem pay190 (d : FVec F S1024x1024 .f32) (p : FVec F S1024x3 .f32) (v450 : FVec F S1024x1 .f32) : k0_pay190 p io v450 d (jb d) = (addf (addf v450 (col2 (off p d))) (col2 (off p (nxt d)))) := rfl
/-- Distances a later round starts from. -/
theorem pay191 (d : FVec F S1024x1024 .f32) : k0_pay191 io d (jb d) = (nxt (nxt d)) := rfl
/-- The chosen column of a round. -/
theorem pay192 (d : FVec F S1024x1024 .f32) : k0_pay192 io d (jb d) = (oh (nxt (nxt d))) := rfl
/-- The offsets of a round. -/
theorem pay193 (d : FVec F S1024x1024 .f32) (p : FVec F S1024x3 .f32) : k0_pay193 p io d (jb d) = (off p (nxt (nxt d))) := rfl
/-- Distances a later round starts from. -/
theorem pay197 (d : FVec F S1024x1024 .f32) : k0_pay197 io d (oh d) = (nxt (nxt d)) := rfl
/-- The chosen column of a round. -/
theorem pay198 (d : FVec F S1024x1024 .f32) : k0_pay198 io d (oh d) = (oh (nxt (nxt d))) := rfl
/-- A sum of offsets, carried on. -/
theorem pay200 (d : FVec F S1024x1024 .f32) (p : FVec F S1024x3 .f32) (v492 : FVec F S1024x1 .f32) : k0_pay200 p io v492 d (oh d) (off p d) = (addf (addf (addf v492 (col0 (off p d))) (col0 (off p (nxt d)))) (col0 (off p (nxt (nxt d))))) := rfl
/-- A sum of offsets, carried on. -/
theorem pay201 (d : FVec F S1024x1024 .f32) (p : FVec F S1024x3 .f32) (v493 : FVec F S1024x1 .f32) : k0_pay201 p io v493 d (oh d) (off p d) = (addf (addf (addf v493 (col1 (off p d))) (col1 (off p (nxt d)))) (col1 (off p (nxt (nxt d))))) := rfl
/-- A sum of offsets, carried on. -/
theorem pay202 (d : FVec F S1024x1024 .f32) (p : FVec F S1024x3 .f32) (v494 : FVec F S1024x1 .f32) : k0_pay202 p io v494 d (oh d) (off p d) = (addf (addf (addf v494 (col2 (off p d))) (col2 (off p (nxt d)))) (col2 (off p (nxt (nxt d))))) := rfl
/-- A sum of offsets, carried on. -/
theorem pay209 (d : FVec F S1024x1024 .f32) (p : FVec F S1024x3 .f32) (v558 : FVec F S1024x1 .f32) : k0_pay209 p io d (oh d) v558 = (addf (addf v558 (col0 (off p (nxt d)))) (col0 (off p (nxt (nxt d))))) := rfl
/-- A sum of offsets, carried on. -/
theorem pay210 (d : FVec F S1024x1024 .f32) (p : FVec F S1024x3 .f32) (v559 : FVec F S1024x1 .f32) : k0_pay210 p io d (oh d) v559 = (addf (addf v559 (col1 (off p (nxt d)))) (col1 (off p (nxt (nxt d))))) := rfl
/-- A sum of offsets, carried on. -/
theorem pay211 (d : FVec F S1024x1024 .f32) (p : FVec F S1024x3 .f32) (v560 : FVec F S1024x1 .f32) : k0_pay211 p io d (oh d) v560 = (addf (addf v560 (col2 (off p (nxt d)))) (col2 (off p (nxt (nxt d))))) := rfl
/-- Distances a later round starts from. -/
theorem pay212 (d : FVec F S1024x1024 .f32) : k0_pay212 io d (oh d) = (nxt (nxt (nxt d))) := rfl
/-- The row minimum of a round. -/
theorem pay213 (d : FVec F S1024x1024 .f32) : k0_pay213 io d (oh d) = (mn (nxt (nxt (nxt d)))) := rfl
/-- The row minimum of a round. -/
theorem pay216 (d : FVec F S1024x1024 .f32) : k0_pay216 io d (mn d) = (mn (nxt d)) := rfl
/-- The three sums of offsets side by side. -/
theorem pay218 (d : FVec F S1024x1024 .f32) (p : FVec F S1024x3 .f32) (v602 : FVec F S1024x1 .f32) (v603 : FVec F S1024x1 .f32) (v604 : FVec F S1024x1 .f32) : k0_pay218 p io v602 v603 v604 d (mn d) = (cat3 (addf (addf v602 (col0 (off p d))) (col0 (off p (nxt d)))) (addf (addf v603 (col1 (off p d))) (col1 (off p (nxt d)))) (addf (addf v604 (col2 (off p d))) (col2 (off p (nxt d))))) := rfl

/-- The nine stored columns are the sums of the products of two offset columns over ten rounds. -/
theorem cov_fold (x0 : Vec F S1x1024x3 .f32) (p : FVec F S1024x3 .f32) (d : FVec F S1024x1024 .f32)
    (hp : k0_pay4 (View.ld x0 r0_0) = p) (hd : k0_pay5 (View.ld x0 r0_0) = d) :
    k0_pay217 (k0_pay165 (k0_pay220 x0) (k0_pay219 x0) (k0_pay129 (k0_pay220 x0) (k0_pay219 x0) (k0_pay237 x0) (k0_pay238 x0) (k0_pay114 (k0_pay220 x0) (k0_pay219 x0) (k0_pay232 x0) (k0_pay233 x0) (k0_pay103 (k0_pay220 x0) (k0_pay219 x0) (k0_pay67 (k0_pay220 x0) (k0_pay219 x0) (k0_pay228 x0) (k0_pay229 x0) (k0_pay52 (k0_pay220 x0) (k0_pay219 x0) (k0_pay223 x0) (k0_pay224 x0) (k0_pay41 (k0_pay220 x0) (k0_pay219 x0) (k0_pay221 x0) (k0_pay6 (F := F)) (k0_pay222 x0)))) (k0_pay230 x0) (k0_pay231 x0)))) (k0_pay239 x0) (k0_pay240 x0)) (k0_pay167 (k0_pay148 (k0_pay220 x0) (k0_pay219 x0) (k0_pay130 (k0_pay220 x0) (k0_pay219 x0) (k0_pay237 x0) (k0_pay238 x0) (k0_pay115 (k0_pay220 x0) (k0_pay219 x0) (k0_pay86 (k0_pay220 x0) (k0_pay219 x0) (k0_pay68 (k0_pay220 x0) (k0_pay219 x0) (k0_pay228 x0) (k0_pay229 x0) (k0_pay53 (k0_pay220 x0) (k0_pay219 x0) (k0_pay24 (k0_pay220 x0) (k0_pay219 x0) (k0_pay7 (F := F)) (k0_pay222 x0)) (k0_pay223 x0) (k0_pay224 x0) (k0_pay42 (k0_pay220 x0) (k0_pay219 x0) (k0_pay221 x0) (k0_pay222 x0)))) (k0_pay231 x0)) (k0_pay232 x0) (k0_pay233 x0) (k0_pay104 (k0_pay220 x0) (k0_pay219 x0) (k0_pay230 x0) (k0_pay231 x0)))) (k0_pay240 x0)) (k0_pay166 (k0_pay220 x0) (k0_pay219 x0) (k0_pay239 x0) (k0_pay240 x0))) (k0_pay168 (k0_pay149 (k0_pay220 x0) (k0_pay219 x0) (k0_pay131 (k0_pay220 x0) (k0_pay219 x0) (k0_pay237 x0) (k0_pay238 x0) (k0_pay116 (k0_pay220 x0) (k0_pay219 x0) (k0_pay87 (k0_pay220 x0) (k0_pay219 x0) (k0_pay69 (k0_pay220 x0) (k0_pay219 x0) (k0_pay228 x0) (k0_pay229 x0) (k0_pay54 (k0_pay220 x0) (k0_pay219 x0) (k0_pay25 (k0_pay220 x0) (k0_pay219 x0) (k0_pay8 (F := F)) (k0_pay222 x0)) (k0_pay223 x0) (k0_pay224 x0) (k0_pay225 x0) (k0_pay227 x0))) (k0_pay231 x0)) (k0_pay232 x0) (k0_pay233 x0) (k0_pay234 x0) (k0_pay236 x0))) (k0_pay240 x0)) (k0_pay243 x0) (k0_pay245 x0)) (k0_pay169 (k0_pay150 (k0_pay220 x0) (k0_pay219 x0) (k0_pay132 (k0_pay220 x0) (k0_pay219 x0) (k0_pay237 x0) (k0_pay238 x0) (k0_pay117 (k0_pay220 x0) (k0_pay219 x0) (k0_pay88 (k0_pay220 x0) (k0_pay219 x0) (k0_pay70 (k0_pay220 x0) (k0_pay219 x0) (k0_pay228 x0) (k0_pay229 x0) (k0_pay55 (k0_pay220 x0) (k0_pay219 x0) (k0_pay26 (k0_pay220 x0) (k0_pay219 x0) (k0_pay9 (F := F)) (k0_pay222 x0)) (k0_pay223 x0) (k0_pay224 x0) (k0_pay225 x0) (k0_pay226 x0))) (k0_pay231 x0)) (k0_pay232 x0) (k0_pay233 x0) (k0_pay234 x0) (k0_pay235 x0))) (k0_pay240 x0)) (k0_pay243 x0) (k0_pay244 x0)) (k0_pay170 (k0_pay151 (k0_pay220 x0) (k0_pay219 x0) (k0_pay133 (k0_pay220 x0) (k0_pay219 x0) (k0_pay237 x0) (k0_pay238 x0) (k0_pay118 (k0_pay220 x0) (k0_pay219 x0) (k0_pay89 (k0_pay220 x0) (k0_pay219 x0) (k0_pay71 (k0_pay220 x0) (k0_pay219 x0) (k0_pay228 x0) (k0_pay229 x0) (k0_pay56 (k0_pay220 x0) (k0_pay219 x0) (k0_pay27 (k0_pay220 x0) (k0_pay219 x0) (k0_pay10 (F := F)) (k0_pay222 x0)) (k0_pay223 x0) (k0_pay224 x0) (k0_pay226 x0))) (k0_pay231 x0)) (k0_pay232 x0) (k0_pay233 x0) (k0_pay235 x0))) (k0_pay240 x0)) (k0_pay244 x0)) (k0_pay171 (k0_pay152 (k0_pay220 x0) (k0_pay219 x0) (k0_pay134 (k0_pay220 x0) (k0_pay219 x0) (k0_pay237 x0) (k0_pay238 x0) (k0_pay119 (k0_pay220 x0) (k0_pay219 x0) (k0_pay90 (k0_pay220 x0) (k0_pay219 x0) (k0_pay72 (k0_pay220 x0) (k0_pay219 x0) (k0_pay228 x0) (k0_pay229 x0) (k0_pay57 (k0_pay220 x0) (k0_pay219 x0) (k0_pay28 (k0_pay220 x0) (k0_pay219 x0) (k0_pay11 (F := F)) (k0_pay222 x0)) (k0_pay223 x0) (k0_pay224 x0) (k0_pay226 x0) (k0_pay227 x0))) (k0_pay231 x0)) (k0_pay232 x0) (k0_pay233 x0) (k0_pay235 x0) (k0_pay236 x0))) (k0_pay240 x0)) (k0_pay244 x0) (k0_pay245 x0)) (k0_pay172 (k0_pay153 (k0_pay220 x0) (k0_pay219 x0) (k0_pay135 (k0_pay220 x0) (k0_pay219 x0) (k0_pay237 x0) (k0_pay238 x0) (k0_pay120 (k0_pay220 x0) (k0_pay219 x0) (k0_pay91 (k0_pay220 x0) (k0_pay219 x0) (k0_pay73 (k0_pay220 x0) (k0_pay219 x0) (k0_pay228 x0) (k0_pay229 x0) (k0_pay58 (k0_pay220 x0) (k0_pay219 x0) (k0_pay29 (k0_pay220 x0) (k0_pay219 x0) (k0_pay12 (F := F)) (k0_pay222 x0)) (k0_pay223 x0) (k0_pay224 x0) (k0_pay225 x0) (k0_pay227 x0))) (k0_pay231 x0)) (k0_pay232 x0) (k0_pay233 x0) (k0_pay234 x0) (k0_pay236 x0))) (k0_pay240 x0)) (k0_pay243 x0) (k0_pay245 x0)) (k0_pay173 (k0_pay154 (k0_pay220 x0) (k0_pay219 x0) (k0_pay136 (k0_pay220 x0) (k0_pay219 x0) (k0_pay237 x0) (k0_pay238 x0) (k0_pay121 (k0_pay220 x0) (k0_pay219 x0) (k0_pay92 (k0_pay220 x0) (k0_pay219 x0) (k0_pay74 (k0_pay220 x0) (k0_pay219 x0) (k0_pay228 x0) (k0_pay229 x0) (k0_pay59 (k0_pay220 x0) (k0_pay219 x0) (k0_pay30 (k0_pay220 x0) (k0_pay219 x0) (k0_pay13 (F := F)) (k0_pay222 x0)) (k0_pay223 x0) (k0_pay224 x0) (k0_pay226 x0) (k0_pay227 x0))) (k0_pay231 x0)) (k0_pay232 x0) (k0_pay233 x0) (k0_pay235 x0) (k0_pay236 x0))) (k0_pay240 x0)) (k0_pay244 x0) (k0_pay245 x0)) (k0_pay174 (k0_pay155 (k0_pay220 x0) (k0_pay219 x0) (k0_pay137 (k0_pay220 x0) (k0_pay219 x0) (k0_pay237 x0) (k0_pay238 x0) (k0_pay122 (k0_pay220 x0) (k0_pay219 x0) (k0_pay93 (k0_pay220 x0) (k0_pay219 x0) (k0_pay75 (k0_pay220 x0) (k0_pay219 x0) (k0_pay228 x0) (k0_pay229 x0) (k0_pay60 (k0_pay220 x0) (k0_pay219 x0) (k0_pay31 (k0_pay220 x0) (k0_pay219 x0) (k0_pay14 (F := F)) (k0_pay222 x0)) (k0_pay223 x0) (k0_pay224 x0) (k0_pay227 x0))) (k0_pay231 x0)) (k0_pay232 x0) (k0_pay233 x0) (k0_pay236 x0))) (k0_pay240 x0)) (k0_pay245 x0)) =
      k0_pay217 (acc (fun e => mulf (col0 (off p e)) (col0 (off p e))) d 10) (acc (fun e => mulf (col0 (off p e)) (col1 (off p e))) d 10) (acc (fun e => mulf (col0 (off p e)) (col2 (off p e))) d 10) (acc (fun e => mulf (col1 (off p e)) (col0 (off p e))) d 10) (acc (fun e => mulf (col1 (off p e)) (col1 (off p e))) d 10) (acc (fun e => mulf (col1 (off p e)) (col2 (off p e))) d 10) (acc (fun e => mulf (col2 (off p e)) (col0 (off p e))) d 10) (acc (fun e => mulf (col2 (off p e)) (col1 (off p e))) d 10) (acc (fun e => mulf (col2 (off p e)) (col2 (off p e))) d 10) := by
  have fold219 := fold219 x0
  have fold220 : k0_pay220 x0 = p := hp
  have fold221 : k0_pay221 x0 = d := hd
  have fold222 : k0_pay222 x0 = cand d := hd ▸ rfl
  simp only [fold219, fold220, fold221, fold222, pay21, pay22, pay23, pay24, pay25, pay26, pay27, pay28, pay29, pay30, pay31, pay32, pay33, pay34, pay35, pay36, pay38, pay39, pay40, pay41, pay42, pay46, pay47, pay49, pay50, pay51, pay52, pay53, pay54, pay55, pay56, pay57, pay58, pay59, pay60, pay67, pay68, pay69, pay70, pay71, pay72, pay73, pay74, pay75, pay76, pay77, pay78, pay79, pay80, pay86, pay87, pay88, pay89, pay90, pay91, pay92, pay93, pay94, pay95, pay96, pay97, pay98, pay100, pay101, pay102, pay103, pay104, pay108, pay109, pay111, pay112, pay113, pay114, pay115, pay116, pay117, pay118, pay119, pay120, pay121, pay122, pay129, pay130, pay131, pay132, pay133, pay134, pay135, pay136, pay137, pay138, pay139, pay140, pay141, pay142, pay148, pay149, pay150, pay151, pay152, pay153, pay154, pay155, pay156, pay157, pay158, pay159, pay160, pay162, pay163, pay164, pay165, pay166, pay178, pay179, pay180, pay181, pay182, pay188, pay189, pay190, pay191, pay192, pay193, pay197, pay198, pay200, pay201, pay202, pay209, pay210, pay211, pay212, pay213, pay216, pay218, k0_pay6, k0_pay7, k0_pay8, k0_pay9, k0_pay10, k0_pay11, k0_pay12, k0_pay13, k0_pay14, k0_pay15, k0_pay16, k0_pay17, k0_pay43, k0_pay44, k0_pay45, k0_pay105, k0_pay106, k0_pay107, k0_pay167, k0_pay168, k0_pay169, k0_pay170, k0_pay171, k0_pay172, k0_pay173, k0_pay174, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254]
  simp only [acc, rnd, k0_pay7, k0_pay8, k0_pay9, k0_pay10, k0_pay11, k0_pay12, k0_pay13, k0_pay14, k0_pay6, zr]

/-- The stored row sums are the sums of the offset columns over all twenty rounds. -/
theorem sum_fold (x0 : Vec F S1x1024x3 .f32) (p : FVec F S1024x3 .f32) (d : FVec F S1024x1024 .f32)
    (hp : k0_pay4 (View.ld x0 r0_0) = p) (hd : k0_pay5 (View.ld x0 r0_0) = d) :
    k0_pay1 (k0_pay218 (k0_pay220 x0) (k0_pay219 x0) (k0_pay209 (k0_pay220 x0) (k0_pay219 x0) (k0_pay251 x0) (k0_pay252 x0) (k0_pay200 (k0_pay220 x0) (k0_pay219 x0) (k0_pay188 (k0_pay220 x0) (k0_pay219 x0) (k0_pay178 (k0_pay220 x0) (k0_pay219 x0) (k0_pay156 (k0_pay220 x0) (k0_pay219 x0) (k0_pay138 (k0_pay220 x0) (k0_pay219 x0) (k0_pay105 (k0_pay94 (k0_pay220 x0) (k0_pay219 x0) (k0_pay76 (k0_pay220 x0) (k0_pay219 x0) (k0_pay43 (k0_pay32 (k0_pay220 x0) (k0_pay219 x0) (k0_pay15 (F := F)) (k0_pay222 x0)) (k0_pay225 x0)) (k0_pay228 x0) (k0_pay229 x0) (k0_pay49 (k0_pay220 x0) (k0_pay219 x0) (k0_pay223 x0) (k0_pay224 x0))) (k0_pay231 x0)) (k0_pay234 x0)) (k0_pay237 x0) (k0_pay238 x0) (k0_pay111 (k0_pay220 x0) (k0_pay219 x0) (k0_pay232 x0) (k0_pay233 x0))) (k0_pay240 x0)) (k0_pay241 x0) (k0_pay242 x0) (k0_pay243 x0)) (k0_pay246 x0) (k0_pay247 x0)) (k0_pay248 x0) (k0_pay249 x0) (k0_pay250 x0))) (k0_pay210 (k0_pay220 x0) (k0_pay219 x0) (k0_pay251 x0) (k0_pay252 x0) (k0_pay201 (k0_pay220 x0) (k0_pay219 x0) (k0_pay189 (k0_pay220 x0) (k0_pay219 x0) (k0_pay179 (k0_pay220 x0) (k0_pay219 x0) (k0_pay157 (k0_pay220 x0) (k0_pay219 x0) (k0_pay139 (k0_pay220 x0) (k0_pay219 x0) (k0_pay106 (k0_pay95 (k0_pay220 x0) (k0_pay219 x0) (k0_pay77 (k0_pay220 x0) (k0_pay219 x0) (k0_pay44 (k0_pay33 (k0_pay220 x0) (k0_pay219 x0) (k0_pay16 (F := F)) (k0_pay222 x0)) (k0_pay226 x0)) (k0_pay228 x0) (k0_pay229 x0) (k0_pay50 (k0_pay220 x0) (k0_pay219 x0) (k0_pay223 x0) (k0_pay224 x0))) (k0_pay231 x0)) (k0_pay235 x0)) (k0_pay237 x0) (k0_pay238 x0) (k0_pay112 (k0_pay220 x0) (k0_pay219 x0) (k0_pay232 x0) (k0_pay233 x0))) (k0_pay240 x0)) (k0_pay241 x0) (k0_pay242 x0) (k0_pay244 x0)) (k0_pay246 x0) (k0_pay247 x0)) (k0_pay248 x0) (k0_pay249 x0) (k0_pay250 x0))) (k0_pay211 (k0_pay220 x0) (k0_pay219 x0) (k0_pay251 x0) (k0_pay252 x0) (k0_pay202 (k0_pay220 x0) (k0_pay219 x0) (k0_pay190 (k0_pay220 x0) (k0_pay219 x0) (k0_pay180 (k0_pay220 x0) (k0_pay219 x0) (k0_pay158 (k0_pay220 x0) (k0_pay219 x0) (k0_pay140 (k0_pay220 x0) (k0_pay219 x0) (k0_pay107 (k0_pay96 (k0_pay220 x0) (k0_pay219 x0) (k0_pay78 (k0_pay220 x0) (k0_pay219 x0) (k0_pay45 (k0_pay34 (k0_pay220 x0) (k0_pay219 x0) (k0_pay17 (F := F)) (k0_pay222 x0)) (k0_pay227 x0)) (k0_pay228 x0) (k0_pay229 x0) (k0_pay51 (k0_pay220 x0) (k0_pay219 x0) (k0_pay223 x0) (k0_pay224 x0))) (k0_pay231 x0)) (k0_pay236 x0)) (k0_pay237 x0) (k0_pay238 x0) (k0_pay113 (k0_pay220 x0) (k0_pay219 x0) (k0_pay232 x0) (k0_pay233 x0))) (k0_pay240 x0)) (k0_pay241 x0) (k0_pay242 x0) (k0_pay245 x0)) (k0_pay246 x0) (k0_pay247 x0)) (k0_pay248 x0) (k0_pay249 x0) (k0_pay250 x0))) (k0_pay253 x0) (k0_pay254 x0)) =
      k0_pay1 (cat3 (acc (fun e => col0 (off p e)) d 20) (acc (fun e => col1 (off p e)) d 20) (acc (fun e => col2 (off p e)) d 20)) := by
  have fold219 := fold219 x0
  have fold220 : k0_pay220 x0 = p := hp
  have fold221 : k0_pay221 x0 = d := hd
  have fold222 : k0_pay222 x0 = cand d := hd ▸ rfl
  simp only [fold219, fold220, fold221, fold222, pay21, pay22, pay23, pay24, pay25, pay26, pay27, pay28, pay29, pay30, pay31, pay32, pay33, pay34, pay35, pay36, pay38, pay39, pay40, pay41, pay42, pay46, pay47, pay49, pay50, pay51, pay52, pay53, pay54, pay55, pay56, pay57, pay58, pay59, pay60, pay67, pay68, pay69, pay70, pay71, pay72, pay73, pay74, pay75, pay76, pay77, pay78, pay79, pay80, pay86, pay87, pay88, pay89, pay90, pay91, pay92, pay93, pay94, pay95, pay96, pay97, pay98, pay100, pay101, pay102, pay103, pay104, pay108, pay109, pay111, pay112, pay113, pay114, pay115, pay116, pay117, pay118, pay119, pay120, pay121, pay122, pay129, pay130, pay131, pay132, pay133, pay134, pay135, pay136, pay137, pay138, pay139, pay140, pay141, pay142, pay148, pay149, pay150, pay151, pay152, pay153, pay154, pay155, pay156, pay157, pay158, pay159, pay160, pay162, pay163, pay164, pay165, pay166, pay178, pay179, pay180, pay181, pay182, pay188, pay189, pay190, pay191, pay192, pay193, pay197, pay198, pay200, pay201, pay202, pay209, pay210, pay211, pay212, pay213, pay216, pay218, k0_pay6, k0_pay7, k0_pay8, k0_pay9, k0_pay10, k0_pay11, k0_pay12, k0_pay13, k0_pay14, k0_pay15, k0_pay16, k0_pay17, k0_pay43, k0_pay44, k0_pay45, k0_pay105, k0_pay106, k0_pay107, k0_pay167, k0_pay168, k0_pay169, k0_pay170, k0_pay171, k0_pay172, k0_pay173, k0_pay174, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254]
  simp only [acc, rnd, k0_pay15, k0_pay16, k0_pay17, zr]

/-- The stored first offsets are the offsets of the first round. -/
theorem first_fold (x0 : Vec F S1x1024x3 .f32) (p : FVec F S1024x3 .f32) (d : FVec F S1024x1024 .f32)
    (hp : k0_pay4 (View.ld x0 r0_0) = p) (hd : k0_pay5 (View.ld x0 r0_0) = d) :
    k0_pay2 (k0_pay21 (k0_pay220 x0) (k0_pay219 x0) (k0_pay222 x0)) (k0_pay22 (k0_pay220 x0) (k0_pay219 x0) (k0_pay222 x0)) (k0_pay23 (k0_pay220 x0) (k0_pay219 x0) (k0_pay222 x0)) =
      k0_pay2 (col0 (off p d)) (col1 (off p d)) (col2 (off p d)) := by
  have fold219 := fold219 x0
  have fold220 : k0_pay220 x0 = p := hp
  have fold222 : k0_pay222 x0 = cand d := hd ▸ rfl
  simp only [fold219, fold220, fold222, pay21, pay22, pay23]

/-- The stored threshold is the least entry of each row at the start of the last round. -/
theorem last_fold (x0 : Vec F S1x1024x3 .f32) (d : FVec F S1024x1024 .f32)
    (hd : k0_pay5 (View.ld x0 r0_0) = d) :
    k0_pay3 (k0_pay216 (k0_pay219 x0) (k0_pay253 x0) (k0_pay254 x0)) = k0_pay3 (mn (rnd d 19)) := by
  have fold219 := fold219 x0
  have fold221 : k0_pay221 x0 = d := hd
  have fold222 : k0_pay222 x0 = cand d := hd ▸ rfl
  simp only [fold219, fold221, fold222, pay21, pay22, pay23, pay24, pay25, pay26, pay27, pay28, pay29, pay30, pay31, pay32, pay33, pay34, pay35, pay36, pay38, pay39, pay40, pay41, pay42, pay46, pay47, pay49, pay50, pay51, pay52, pay53, pay54, pay55, pay56, pay57, pay58, pay59, pay60, pay67, pay68, pay69, pay70, pay71, pay72, pay73, pay74, pay75, pay76, pay77, pay78, pay79, pay80, pay86, pay87, pay88, pay89, pay90, pay91, pay92, pay93, pay94, pay95, pay96, pay97, pay98, pay100, pay101, pay102, pay103, pay104, pay108, pay109, pay111, pay112, pay113, pay114, pay115, pay116, pay117, pay118, pay119, pay120, pay121, pay122, pay129, pay130, pay131, pay132, pay133, pay134, pay135, pay136, pay137, pay138, pay139, pay140, pay141, pay142, pay148, pay149, pay150, pay151, pay152, pay153, pay154, pay155, pay156, pay157, pay158, pay159, pay160, pay162, pay163, pay164, pay165, pay166, pay178, pay179, pay180, pay181, pay182, pay188, pay189, pay190, pay191, pay192, pay193, pay197, pay198, pay200, pay201, pay202, pay209, pay210, pay211, pay212, pay213, pay216, pay218, k0_pay6, k0_pay7, k0_pay8, k0_pay9, k0_pay10, k0_pay11, k0_pay12, k0_pay13, k0_pay14, k0_pay15, k0_pay16, k0_pay17, k0_pay43, k0_pay44, k0_pay45, k0_pay105, k0_pay106, k0_pay107, k0_pay167, k0_pay168, k0_pay169, k0_pay170, k0_pay171, k0_pay172, k0_pay173, k0_pay174, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254]
  simp only [rnd]

end Cert.KernelIdeal.Knn
-- ==== Proof.Select.lean ====
module

public import Idealize.ShloMosaic.Lib.SortPrefix
public import Idealize.ShloMosaic.Lib.Pointwise

/-!
Choosing the nearest first, twice: by sorting, and by taking the least entry again and again.

Both are described by one order on the positions, the entry first and the position second.
-/

@[expose] public section

noncomputable section

open Idealize.ShloMosaic

namespace Cert.Knn

variable {n : Nat}

/-- One position comes before another: its entry is smaller, or the entries agree and it stands first. -/
def near (d : Fin n → EReal) (a b : Fin n) : Bool :=
  decide (d a < d b) || (decide (d a = d b) && decide (a < b))

/-- The order of the positions is a strict total order. -/
theorem near_total (d : Fin n → EReal) : StrictTotalBefore (near d) :=
  StrictTotalBefore.of_key_then_position (fun a b => decide (a < b)) d (by simp)
    (fun a b c h h' => by simp only [decide_eq_true_eq] at *; exact h.trans h')
    (fun a b => by simpa using lt_trichotomy a b)

/-- The position in place `k` when the positions are put in order. -/
def nth (d : Fin n → EReal) (k : Fin n) : Fin n := sortedFrom (near d) k

/-- On positions listed in increasing order a stable sort by the entries alone is the sort by entry and position. -/
theorem stableSort_weak (d : Fin n → EReal) (l : List (Fin n)) (hl : l.Pairwise (· < ·)) :
    stableSort (fun a b => decide (d a < d b)) l = stableSort (near d) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [near, not_lt_of_gt hab]

/-- A stable sort by the entries alone puts `nth d k` in place `k`. -/
theorem sortedFrom_weak (d : Fin n → EReal) (k : Fin n) :
    sortedFrom (fun a b => decide (d a < d b)) k = nth d k := by
  have h : sortPositions n (fun a b => decide (d a < d b)) = sortPositions n (near d) :=
    stableSort_weak d (List.finRange n) (List.pairwise_lt_finRange n)
  simp only [nth, sortedFrom, List.get_eq_getElem, Fin.val_cast, h]

/-- Different places hold different positions. -/
theorem nth_injective (d : Fin n → EReal) : Function.Injective (nth d) := sortedFrom_injective _

/-- Every position stands in some place. -/
theorem nth_surjective (d : Fin n → EReal) : Function.Surjective (nth d) := sortedFrom_surjective _

/-- The entries grow with the place, and among equal entries the positions do. -/
theorem nth_order (d : Fin n → EReal) (i j : Fin n) (h : i ≤ j) :
    d (nth d i) ≤ d (nth d j) ∧ (d (nth d i) = d (nth d j) → nth d i ≤ nth d j) := by
  rcases h.lt_or_eq with h | rfl
  · have := sortedFrom_noInversion (near d) (near d) (near_total d).asymm (fun _ _ h => h) (near_total d).negTrans i j h
    simp only [near, Bool.or_eq_false_iff, decide_eq_false_iff_not, not_lt, Bool.and_eq_false_iff] at this
    exact ⟨this.1, fun e => this.2.elim (fun h => absurd e.symm h) id⟩
  · exact ⟨le_rfl, fun _ => le_rfl⟩

open Classical in
/-- The entries after `k` rounds: those in the first `k` places are infinite. -/
def row (d : Fin n → EReal) (k : Nat) (q : Fin n) : EReal :=
  if ∃ j : Fin n, j.val < k ∧ nth d j = q then ⊤ else d q

/-- Before the first round nothing is infinite. -/
theorem row_zero (d : Fin n → EReal) : row d 0 = d := by
  funext q; simp [row]

/-- A round makes the entry in its place infinite. -/
theorem row_succ (d : Fin n → EReal) (k : Fin n) (q : Fin n) :
    row d (k.val + 1) q = if q = nth d k then ⊤ else row d k.val q := by
  unfold row
  by_cases hq : q = nth d k
  · rw [if_pos hq, if_pos ⟨k, Nat.lt_succ_self _, hq.symm⟩]
  · rw [if_neg hq]
    have : (∃ j : Fin n, j.val < k.val + 1 ∧ nth d j = q) ↔ ∃ j : Fin n, j.val < k.val ∧ nth d j = q := by
      constructor
      · rintro ⟨j, hj, rfl⟩
        rcases Nat.lt_succ_iff_lt_or_eq.mp hj with h | h
        · exact ⟨j, h, rfl⟩
        · exact absurd (congrArg (nth d) (Fin.ext h)) hq
      · rintro ⟨j, hj, rfl⟩; exact ⟨j, Nat.lt_succ_of_lt hj, rfl⟩
    simp only [this]

/-- An entry that is still there belongs to this place or a later one. -/
theorem row_cases (d : Fin n → EReal) (k : Fin n) (q : Fin n) :
    row d k.val q = ⊤ ∨ ∃ j : Fin n, k ≤ j ∧ nth d j = q ∧ row d k.val q = d q := by
  obtain ⟨j, rfl⟩ := nth_surjective d q
  unfold row
  by_cases h : ∃ i : Fin n, i.val < k.val ∧ nth d i = nth d j
  · exact Or.inl (if_pos h)
  · exact Or.inr ⟨j, not_lt.mp fun hj => h ⟨j, hj, rfl⟩, rfl, if_neg h⟩

/-- The entry of place `k` is still there in round `k`. -/
theorem row_self (d : Fin n → EReal) (k : Fin n) : row d k.val (nth d k) = d (nth d k) := by
  unfold row
  refine if_neg ?_
  rintro ⟨j, hj, e⟩
  exact absurd (congrArg Fin.val (nth_injective d e)) (Nat.ne_of_lt hj)

/-- The least entry in round `k` is the one in place `k`. -/
theorem row_min (d : Fin n → EReal) (k : Fin n) :
    Finset.univ.fold min ⊤ (row d k.val) = d (nth d k) := by
  have hf : Finset.univ.fold min ⊤ (row d k.val) = Finset.univ.inf (row d k.val) := rfl
  rw [hf]
  refine le_antisymm ((Finset.inf_le (Finset.mem_univ (nth d k))).trans (row_self d k).le) ?_
  refine Finset.le_inf fun q _ => ?_
  rcases row_cases d k q with h | ⟨j, hj, rfl, h⟩
  · rw [h]; exact le_top
  · rw [h]; exact (nth_order d k j hj).1

/-- Place `k` holds the first position that attains the least entry of round `k`. -/
theorem row_first (d : Fin n → EReal) (hd : ∀ q, d q < ⊤) (k : Fin n) (q : Fin n)
    (h : row d k.val q = d (nth d k)) : nth d k ≤ q := by
  rcases row_cases d k q with h' | ⟨j, hj, rfl, h'⟩
  · exact absurd (h'.symm.trans h) (hd _).ne'
  · exact (nth_order d k j hj).2 (h.symm.trans h')

/-- If place `k` and the next one hold different entries, the entries up to that of place `k` are exactly those of
the places up to `k`. -/
theorem le_iff_place (d : Fin n → EReal) (k k' : Fin n) (hk : k'.val = k.val + 1)
    (h : d (nth d k) < d (nth d k')) (q : Fin n) :
    d q ≤ d (nth d k) ↔ ∃ j : Fin n, j ≤ k ∧ nth d j = q := by
  obtain ⟨j, rfl⟩ := nth_surjective d q
  constructor
  · intro hq
    refine ⟨j, not_lt.mp fun hj => ?_, rfl⟩
    have : k' ≤ j := by rw [Fin.le_def, hk]; exact hj
    exact absurd (h.trans_le ((nth_order d k' j this).1.trans hq)) (lt_irrefl _)
  · rintro ⟨i, hi, e⟩
    rw [← e]
    exact (nth_order d i k hi).1

end Cert.Knn
-- ==== Proof.RoundsAt.lean ====
module

public import proofs.«01_k».proof.Proof.Rounds
public import proofs.«01_k».proof.Proof.Select

/-!
What a round of the first call finds: the position in the round's place of the order by distance.
-/

@[expose] public section

set_option maxRecDepth 16384

noncomputable section

open Idealize.ShloMosaic Idealize.ShloMosaic.TcCoe Idealize.SL.Sem
open Cert.KernelIdeal Cert.KernelIdeal.Gen Cert.Knn

namespace Cert.KernelIdeal.Knn

/-- The pattern of positive infinity is infinity. -/
theorem inf_pattern : Ideal.ofBits .f32 2139095040#32 = ⊤ := by simp [Ideal.ofBits, Ideal.ieee]

/-- The pattern of negative infinity is negative infinity. -/
theorem neg_inf_pattern : Ideal.ofBits .f32 4286578688#32 = ⊥ := by simp [Ideal.ofBits, Ideal.ieee]

/-- The signed minimum of two words, read as an integer. -/
theorem toInt_minsi (x y : BitVec 32) : (IntOp.minsi x y).toInt = min x.toInt y.toInt := by
  unfold IntOp.minsi
  simp only [BitVec.slt, decide_eq_true_eq]
  split <;> omega

/-- A column number read as an integer. -/
theorem toInt_col (q : Fin 1024) : (BitVec.ofNat 32 q.val).toInt = q.val := by
  rw [BitVec.toInt_eq_toNat_of_lt] <;> simp only [BitVec.toNat_ofNat] <;> omega

/-- The least column number among those marked is the first marked position. -/
theorem first_col (f : Fin 1024 → EReal) (m : EReal) (s : Fin 1024) (hs : f s = m)
    (hfirst : ∀ q, f q = m → s ≤ q) :
    Finset.fold IntOp.minsi (2147483647#32) (fun x => if f x = m then BitVec.ofNat 32 x.val else 1024#32)
      (Finset.univ : Finset (Fin 1024)) = BitVec.ofNat 32 s.val := by
  apply BitVec.eq_of_toInt_eq
  rw [← Finset.fold_hom (op' := min) (m := BitVec.toInt) toInt_minsi, toInt_col]
  apply le_antisymm
  · rw [Finset.fold_min_le]
    refine Or.inr ⟨s, Finset.mem_univ _, ?_⟩
    rw [if_pos hs, toInt_col]
  · rw [Finset.le_fold_min]
    refine ⟨by have : (2147483647#32).toInt = 2147483647 := rfl
               have := s.isLt; omega, fun q _ => ?_⟩
    split
    · rename_i h
      rw [toInt_col]; exact_mod_cast hfirst q h
    · have : (1024#32).toInt = 1024 := rfl
      have := s.isLt; omega

section

variable (d : FVec Ideal S1024x1024 .f32) (r : Fin 1024) (s : Fin 1024)

/-- The row minimum. -/
theorem mn_at : mn d (ix2 r 0) = Finset.univ.fold min ⊤ fun q => d (ix2 r q) := by
  pointwise [mn]
  rw [inf_pattern]

/-- The mark of a round stands at the first position that attains the row minimum. -/
theorem oh_at (q : Fin 1024) (hs : d (ix2 r s) = mn d (ix2 r 0))
    (hfirst : ∀ q, d (ix2 r q) = mn d (ix2 r 0) → s ≤ q) :
    oh d (ix2 r q) = if q = s then 1#1 else 0#1 := by
  pointwise [oh, jb, cand, io]
  rw [first_col (fun x => d (ix2 r x)) _ s hs hfirst]
  unfold IntOp.cmpi
  by_cases h : q = s
  · subst h; simp
  · have : ¬ BitVec.ofNat 32 q.val = BitVec.ofNat 32 s.val := fun e => h (Fin.ext (by
      have := congrArg BitVec.toInt e; rw [toInt_col, toInt_col] at this; exact_mod_cast this))
    rw [if_neg h, show (BitVec.ofNat 32 q.val == BitVec.ofNat 32 s.val) = false from beq_eq_false_iff_ne.mpr this]
    rfl

/-- The point of a round. -/
theorem nb_at (p : FVec Ideal S1024x3 .f32) (c : Fin 3)
    (hoh : ∀ q, oh d (ix2 r q) = if q = s then 1#1 else 0#1) :
    nb p d (ix2 r c) = p (ix2 s c) := by
  pointwise [nb]
  rw [Finset.sum_eq_single s]
  · rw [hoh, if_pos rfl]
    have : FloatOps.sitofp (F := Ideal) .f32 (BitVec.setWidth 32 (1#1)) = 1 := by
      show (((BitVec.setWidth 32 (1#1)).toInt : ℝ) : EReal) = 1
      norm_num
    rw [this, one_mul]
  · intro q _ hq
    rw [hoh, if_neg hq]
    have : FloatOps.sitofp (F := Ideal) .f32 (BitVec.setWidth 32 (0#1)) = 0 := by
      show (((BitVec.setWidth 32 (0#1)).toInt : ℝ) : EReal) = 0
      norm_num
    rw [this, zero_mul]
  · intro h; exact absurd (Finset.mem_univ _) h

/-- The distances after a round. -/
theorem nxt_at (q : Fin 1024) (hoh : ∀ q, oh d (ix2 r q) = if q = s then 1#1 else 0#1) :
    nxt d (ix2 r q) = if q = s then ⊤ else d (ix2 r q) := by
  pointwise [nxt]
  rw [hoh, inf_pattern]
  split <;> rfl

end

section

variable (d : FVec Ideal S1024x1024 .f32) (r : Fin 1024)

/-- The position in a place of the order of row `r`'s distances. -/
def at_ (k : Fin 1024) : Fin 1024 := nth (fun q => d (ix2 r q)) k

/-- The mark of a round whose distances are those of the order's `k`-th round. -/
theorem oh_of_row (e : FVec Ideal S1024x1024 .f32) (k : Fin 1024)
    (hd : ∀ q, d (ix2 r q) < ⊤)
    (he : ∀ q, e (ix2 r q) = row (fun q => d (ix2 r q)) k.val q) (q : Fin 1024) :
    oh e (ix2 r q) = if q = at_ d r k then 1#1 else 0#1 := by
  have hm : mn e (ix2 r 0) = d (ix2 r (at_ d r k)) := by
    rw [mn_at]; simp only [he]; exact row_min _ k
  refine oh_at e r _ q ?_ fun q hq => ?_
  · rw [hm, he]; exact row_self _ k
  · rw [hm, he] at hq; exact row_first _ hd k q hq

/-- The distances round `k` starts from are the order's. -/
theorem rnd_at (hd : ∀ q, d (ix2 r q) < ⊤) (k : Nat) (hk : k ≤ 1024) (q : Fin 1024) :
    rnd d k (ix2 r q) = row (fun q => d (ix2 r q)) k q := by
  induction k generalizing q with
  | zero => rw [row_zero]; rfl
  | succ k ih =>
    have hk' : k < 1024 := hk
    rw [show rnd d (k + 1) = nxt (rnd d k) from rfl,
      nxt_at _ r (at_ d r ⟨k, hk'⟩) q (oh_of_row d r _ ⟨k, hk'⟩ hd (ih hk'.le)),
      row_succ _ ⟨k, hk'⟩, ih hk'.le]
    rfl

/-- The least distance of round `k` is that of the position in place `k`. -/
theorem mn_rnd (hd : ∀ q, d (ix2 r q) < ⊤) (k : Fin 1024) :
    mn (rnd d k.val) (ix2 r 0) = d (ix2 r (at_ d r k)) := by
  rw [mn_at]; simp only [rnd_at d r hd k.val k.isLt.le]; exact row_min _ k

/-- The offset of round `k`. -/
theorem off_rnd (p : FVec Ideal S1024x3 .f32) (c : Fin 3) (hd : ∀ q, d (ix2 r q) < ⊤) (k : Fin 1024) :
    off p (rnd d k.val) (ix2 r c) = p (ix2 r c) - p (ix2 (at_ d r k) c) := by
  unfold off
  rw [show subf p (nb p (rnd d k.val)) (ix2 r c) = p (ix2 r c) - nb p (rnd d k.val) (ix2 r c) from rfl,
    nb_at _ r (at_ d r k) p c (oh_of_row d r _ k hd (rnd_at d r hd k.val k.isLt.le))]

end

/-- A sum over the rounds, read at a row. -/
theorem acc_at (f : FVec Ideal S1024x1024 .f32 → FVec Ideal S1024x1 .f32) (d : FVec Ideal S1024x1024 .f32)
    (r : Fin 1024) (n : Nat) :
    acc f d n (ix2 r 0) = ∑ k : Fin n, f (rnd d k.val) (ix2 r 0) := by
  induction n with
  | zero => simp only [acc]; pointwise [zr]; simp
  | succ n ih =>
    rw [Fin.sum_univ_castSucc, show acc f d (n + 1) (ix2 r 0) = acc f d n (ix2 r 0) + f (rnd d n) (ix2 r 0) from rfl, ih]
    rfl

end Cert.KernelIdeal.Knn
-- ==== Proof.Model.lean ====
module

public import proofs.«01_k».proof.Proof.Select
public import Idealize.ShloMosaic.Lib.Pipeline.ValueKit
public import Idealize.ShloMosaic.Lib.Pointwise

/-!
What both programs compute for one sample, over the extended reals: distances, neighbours, offsets,
and the spline's sum over the eight corners of a cell.
-/

@[expose] public section

noncomputable section

open Idealize.ShloMosaic

namespace Cert.Knn

/-- The constant `2.0`. -/
abbrev two : EReal := Ideal.ofBits .f32 1073741824#32
/-- The constant `1e10`, which keeps a point from being its own neighbour. -/
abbrev big : EReal := Ideal.ofBits .f32 1343554297#32
/-- The constant `0.5`. -/
abbrev half : EReal := Ideal.ofBits .f32 1056964608#32
/-- The constant `4.0`. -/
abbrev four : EReal := Ideal.ofBits .f32 1082130432#32

/-- Each of these constants is a real number. -/
theorem two_real : two = ((2 : ℝ) : EReal) := by
  simp [two, Ideal.ofBits, Ideal.ieee]
  rw [← EReal.coe_mul]
  norm_num
/-- So is `big`. -/
theorem big_real : ∃ r : ℝ, big = (r : EReal) := by
  simp only [big, Ideal.ofBits, Ideal.ieee]
  norm_num
  exact ⟨_, rfl⟩
/-- So is `half`. -/
theorem half_real : half = ((1 / 2 : ℝ) : EReal) := by
  simp [half, Ideal.ofBits, Ideal.ieee]
  rw [← EReal.coe_mul]
  norm_num
/-- So is `four`. -/
theorem four_real : four = ((4 : ℝ) : EReal) := by
  simp [four, Ideal.ofBits, Ideal.ieee]
  rw [← EReal.coe_mul]
  norm_num

/-- The squared distance of two points of a sample, with `big` added on the diagonal. -/
def sqd (x : Fin 1024 → Fin 3 → EReal) (p q : Fin 1024) : EReal :=
  (∑ c, x p c * x p c) + (∑ c, x q c * x q c) - two * ∑ c, x p c * x q c + if p = q then big else 0

/-- The neighbour of `p` in place `k`. -/
def nbr (x : Fin 1024 → Fin 3 → EReal) (p : Fin 1024) (k : Fin 1024) : Fin 1024 := nth (sqd x p) k

/-- The offset from the neighbour in place `k`. -/
def offset (x : Fin 1024 → Fin 3 → EReal) (p : Fin 1024) (k : Fin 1024) (c : Fin 3) : EReal :=
  x p c - x (nbr x p k) c

/-- The row of the weight table a word names. -/
def cellRow (w : BitVec 32) : Fin 125 := ⟨w.toNat % 125, Nat.mod_lt _ (by decide)⟩

/-- The word of a cell: the first coordinate runs fastest. -/
def cellWord (a b c : BitVec 32) : BitVec 32 := a + b * 5#32 + c * 25#32

/-- A coordinate kept between 0 and 4. -/
def clip (a : BitVec 32) : BitVec 32 := IntOp.minsi 4#32 (IntOp.maxsi 0#32 a)

/-- A kept coordinate is at most 4. -/
theorem clip_le (a : BitVec 32) : (clip a).toNat ≤ 4 := by
  unfold clip IntOp.minsi IntOp.maxsi
  have h4 : (4#32 : BitVec 32).toInt = 4 := by decide
  have h0 : (0#32 : BitVec 32).toInt = 0 := by decide
  split
  · decide
  · rename_i h
    simp only [BitVec.slt, h4, h0, decide_eq_true_eq] at h ⊢
    have e := BitVec.toInt_eq_toNat_cond a
    have := a.isLt
    by_cases h' : 4 < a.toInt
    · rw [if_pos h']
      decide
    · rw [if_neg h']
      split at e <;> omega

/-- The row a word of three kept coordinates names, as a number. -/
theorem cellWord_toNat (a b c : BitVec 32) :
    (cellWord (clip a) (clip b) (clip c)).toNat = (clip a).toNat + (clip b).toNat * 5 + (clip c).toNat * 25 := by
  have ha := clip_le a
  have hb := clip_le b
  have hc := clip_le c
  simp only [cellWord, BitVec.toNat_add, BitVec.toNat_mul, BitVec.toNat_ofNat]
  omega

/-- Such a word is the word of its row. -/
theorem cellWord_row (a b c : BitVec 32) :
    cellWord (clip a) (clip b) (clip c) = BitVec.ofNat 32 (cellRow (cellWord (clip a) (clip b) (clip c))).val := by
  have ha := clip_le a
  have hb := clip_le b
  have hc := clip_le c
  apply BitVec.eq_of_toNat_eq
  simp only [cellRow, BitVec.toNat_ofNat]
  rw [cellWord_toNat]
  omega

/-- Such a word is not negative. -/
theorem cellWord_nonneg (a b c : BitVec 32) : (cellWord (clip a) (clip b) (clip c)).slt 0#32 = false := by
  have ha := clip_le a
  have hb := clip_le b
  have hc := clip_le c
  have h := cellWord_toNat a b c
  have h0 : (0#32 : BitVec 32).toInt = 0 := by decide
  simp only [BitVec.slt, decide_eq_false_iff_not, not_lt, h0]
  rw [BitVec.toInt_eq_toNat_of_lt (by omega)]
  omega

/-- A column number equals such a word exactly at the word's row. -/
theorem eq_cellWord (a b c : BitVec 32) (j : Fin 125) :
    BitVec.ofNat 32 j.val = cellWord (clip a) (clip b) (clip c) ↔ j = cellRow (cellWord (clip a) (clip b) (clip c)) := by
  constructor
  · intro h
    apply Fin.ext
    rw [cellRow, ← h]
    simp only [BitVec.toNat_ofNat]
    omega
  · intro h
    rw [h]
    exact (cellWord_row a b c).symm

/-- The spline's message at one point: the eight corners of its cell, each row of the table weighted by
the product of three factors.  `f` are the factors of the lower, `g` of the upper corner, `l` and `h` the
coordinates of the two. -/
def spline (f g : Fin 3 → EReal) (l h : Fin 3 → BitVec 32) (W : Fin 125 → EReal) : EReal :=
  f 0 * f 1 * f 2 * W (cellRow (cellWord (l 0) (l 1) (l 2)))
    + f 0 * f 1 * g 2 * W (cellRow (cellWord (l 0) (l 1) (h 2)))
    + f 0 * g 1 * f 2 * W (cellRow (cellWord (l 0) (h 1) (l 2)))
    + f 0 * g 1 * g 2 * W (cellRow (cellWord (l 0) (h 1) (h 2)))
    + g 0 * f 1 * f 2 * W (cellRow (cellWord (h 0) (l 1) (l 2)))
    + g 0 * f 1 * g 2 * W (cellRow (cellWord (h 0) (l 1) (h 2)))
    + g 0 * g 1 * f 2 * W (cellRow (cellWord (h 0) (h 1) (l 2)))
    + g 0 * g 1 * g 2 * W (cellRow (cellWord (h 0) (h 1) (h 2)))

end Cert.Knn
-- ==== Proof.Call1.lean ====
module

public import proofs.«01_k».proof.Proof.RoundsAt
public import proofs.«01_k».proof.Proof.Model
public import Idealize.ShloMosaic.Lib.Tactic.CleanTypes

/-!
The four blocks the first call stores, read at an index.
-/

@[expose] public section

set_option maxRecDepth 16384

noncomputable section

open Idealize.ShloMosaic Idealize.ShloMosaic.TcCoe Idealize.SL.Sem
open Cert.KernelIdeal Cert.KernelIdeal.Gen Cert.Knn

namespace Cert.KernelIdeal.Knn

/-- The points of a block. -/
def pnt (x0 : Vec Ideal S1x1024x3 .f32) (p : Fin 1024) (c : Fin 3) : EReal := x0 (ix3 0 p c)

/-- The call's table of points. -/
theorem pay4_at (x0 : Vec Ideal S1x1024x3 .f32) (p : Fin 1024) (c : Fin 3) :
    ((k0_pay4 (F := Ideal) x0 : FVec Ideal S1024x3 .f32) (ix2 p c)) = pnt x0 p c := by
  pointwise [k0_pay4]
  rfl

/-- Row and column numbers agree exactly when the words do. -/
theorem select_diag (p q : Fin 1024) (a b : EReal) :
    Scalar.select (IntOp.cmpi .eq (BitVec.ofNat 32 p.val) (BitVec.ofNat 32 q.val)) a b =
      if p = q then a else b := by
  have : (BitVec.ofNat 32 p.val = BitVec.ofNat 32 q.val) ↔ p = q := by
    constructor
    · intro h
      have := congrArg BitVec.toNat h
      simp only [BitVec.toNat_ofNat] at this
      apply Fin.ext
      omega
    · rintro rfl; rfl
  by_cases h : p = q
  · subst h
    simp [Scalar.select, IntOp.cmpi]
  · have h' := fun e => h (this.1 e)
    have hb : (BitVec.ofNat 32 p.val == BitVec.ofNat 32 q.val) = false := beq_eq_false_iff_ne.mpr h'
    simp [Scalar.select, IntOp.cmpi, h, hb]

/-- The call's table of distances. -/
theorem pay5_at (x0 : Vec Ideal S1x1024x3 .f32) (p q : Fin 1024) :
    ((k0_pay5 (F := Ideal) x0 : FVec Ideal S1024x1024 .f32) (ix2 p q)) = sqd (pnt x0) p q := by
  have h4 := pay4_at x0
  pointwise [k0_pay5]
  rw [select_diag]
  simp only [h4]
  unfold sqd
  by_cases h : p = q
  · simp [h]
  · simp [h]

section
variable (x0 : Vec Ideal S1x1024x3 .f32) (r : Fin 1024) (hd : ∀ q, sqd (pnt x0) r q < ⊤)
include hd

/-- The offset of round `k`. -/
theorem off_at (c : Fin 3) (k : Fin 1024) :
    off (k0_pay4 x0) (rnd (k0_pay5 x0) k.val) (ix2 r c) = offset (pnt x0) r k c := by
  rw [off_rnd (k0_pay5 x0) r (k0_pay4 x0) c (fun q => by rw [pay5_at]; exact hd q) k]
  have : at_ (k0_pay5 x0) r k = nbr (pnt x0) r k := by
    unfold at_ nbr
    exact congrArg (fun f => nth f k) (funext fun q => pay5_at x0 r q)
  rw [this, pay4_at, pay4_at]
  rfl

/-- The first block: sums of products of the offsets of ten rounds. -/
theorem out0_1_at (e : Fin 9) :
    out0_1 x0 (ix3 0 r e) = ∑ k : Fin 10, offset (pnt x0) r (k.castLE (by decide)) ⟨e.val / 3, by omega⟩
      * offset (pnt x0) r (k.castLE (by decide)) ⟨e.val % 3, by omega⟩ := by
  have h (k : Fin 10) (c) := off_at x0 r hd c (k.castLE (by decide))
  unfold out0_1
  rw [cov_fold x0 _ _ rfl rfl]
  frame_out
  generalize k0_pay4 x0 = p at *
  generalize k0_pay5 x0 = d at *
  pointwise [k0_pay217]
  have c0 (v : FVec Ideal S1024x3 .f32) : col0 v (ix2 r 0) = v (ix2 r 0) := by pointwise [col0]
  have c1 (v : FVec Ideal S1024x3 .f32) : col1 v (ix2 r 0) = v (ix2 r 1) := by pointwise [col1]
  have c2 (v : FVec Ideal S1024x3 .f32) : col2 v (ix2 r 0) = v (ix2 r 2) := by pointwise [col2]
  fin_cases e <;>
  · simp
    rw [acc_at]
    refine Finset.sum_congr rfl fun k _ => ?_
    simp only [show ∀ a b : FVec Ideal S1024x1 .f32, mulf a b (ix2 r 0) = a (ix2 r 0) * b (ix2 r 0) from fun _ _ => rfl,
      c0, c1, c2]
    exact congrArg₂ (· * ·) (h k _) (h k _)

/-- The second block: the offsets of twenty rounds, summed. -/
theorem out0_2_at (c : Fin 3) :
    out0_2 x0 (ix3 0 r c) = ∑ k : Fin 20, offset (pnt x0) r (k.castLE (by decide)) c := by
  have h (k : Fin 20) (c) := off_at x0 r hd c (k.castLE (by decide))
  unfold out0_2
  rw [sum_fold x0 _ _ rfl rfl]
  frame_out
  generalize k0_pay4 x0 = p at *
  generalize k0_pay5 x0 = d at *
  pointwise [k0_pay1, cat3]
  have c0 (v : FVec Ideal S1024x3 .f32) : col0 v (ix2 r 0) = v (ix2 r 0) := by pointwise [col0]
  have c1 (v : FVec Ideal S1024x3 .f32) : col1 v (ix2 r 0) = v (ix2 r 1) := by pointwise [col1]
  have c2 (v : FVec Ideal S1024x3 .f32) : col2 v (ix2 r 0) = v (ix2 r 2) := by pointwise [col2]
  fin_cases c <;>
  · simp
    rw [acc_at]
    refine Finset.sum_congr rfl fun k _ => ?_
    simp only [c0, c1, c2]
    exact h k _

/-- The third block: the offset from the nearest point. -/
theorem out0_3_at (c : Fin 3) :
    out0_3 x0 (ix3 0 r c) = offset (pnt x0) r 0 c := by
  have h (c) : off (k0_pay4 x0) (k0_pay5 x0) (ix2 r c) = offset (pnt x0) r 0 c := off_at x0 r hd c 0
  unfold out0_3
  rw [first_fold x0 _ _ rfl rfl]
  frame_out
  generalize k0_pay4 x0 = p at *
  generalize k0_pay5 x0 = d at *
  pointwise [k0_pay2]
  have c0 (v : FVec Ideal S1024x3 .f32) : col0 v (ix2 r 0) = v (ix2 r 0) := by pointwise [col0]
  have c1 (v : FVec Ideal S1024x3 .f32) : col1 v (ix2 r 0) = v (ix2 r 1) := by pointwise [col1]
  have c2 (v : FVec Ideal S1024x3 .f32) : col2 v (ix2 r 0) = v (ix2 r 2) := by pointwise [col2]
  fin_cases c <;>
  · simp
    simp only [c0, c1, c2]
    exact h _

/-- The fourth block: the distance of the twentieth nearest point. -/
theorem out0_4_at :
    out0_4 x0 (ix3 0 r 0) = sqd (pnt x0) r (nbr (pnt x0) r 19) := by
  have h := mn_rnd (k0_pay5 x0) r (fun q => by rw [pay5_at]; exact hd q) 19
  have : at_ (k0_pay5 x0) r 19 = nbr (pnt x0) r 19 := by
    unfold at_ nbr
    exact congrArg (fun f => nth f 19) (funext fun q => pay5_at x0 r q)
  rw [this, pay5_at] at h
  unfold out0_4
  rw [last_fold x0 _ rfl]
  frame_out
  generalize k0_pay5 x0 = d at *
  pointwise [k0_pay3]
  exact h

end

end Cert.KernelIdeal.Knn
-- ==== Proof.Local.lean ====
module

public import proofs.«01_k».proof.Proof.Model

/-!
One point of one sample: its position in the spline's grid, and what the second call's way of finding
the largest projection has to do with the neighbours.
-/

@[expose] public section

noncomputable section

open Idealize.ShloMosaic

namespace Cert.Knn

section
variable (X : Fin 1024 → Fin 3 → EReal) (V : Fin 3 → Fin 3 → EReal) (r : Fin 1024)

/-- The offset from the neighbour in place `k` along column `e` of the frame. -/
def along (k : Fin 1024) (e : Fin 3) : EReal := ∑ c, offset X r k c * V c e

/-- The offsets of twenty neighbours along the third column, summed. -/
def third : EReal := ∑ k : Fin 20, along X V r (k.castLE (by decide)) 2

/-- The offsets along the frame, the third column turned to a positive sum. -/
def turned (k : Fin 20) (e : Fin 3) : EReal :=
  if e.val < 2 then along X V r (k.castLE (by decide)) e
  else along X V r (k.castLE (by decide)) 2 * Ideal.sign (third X V r)

/-- The largest of their absolute values. -/
def reach : EReal := Finset.fold max (Ideal.ofBits .f32 4286578688#32)
  (fun y : Fin 20 × Fin 3 => FloatOps.absf (F := Ideal) (φ := .f32) (turned X V r y.1 y.2)) Finset.univ

/-- The nearest neighbour's position in the spline's grid. -/
def coord (e : Fin 3) : EReal := (Ideal.div (turned X V r 0 e) (reach X V r) * half + half) * four

/-- The part of a position beyond its cell. -/
def frac (x : EReal) : EReal := x - Ideal.liftRound Int.floor x

/-- The cell of a position. -/
def cellOf (x : EReal) : BitVec 32 := FloatOps.fptosi (F := Ideal) (φ := .f32) 32 (Ideal.liftRound Int.floor x)

/-- The spline's message for the point. -/
def message (W : Fin 125 → EReal) : EReal :=
  spline (fun e => 1 - frac (coord X V r e)) (fun e => frac (coord X V r e))
    (fun e => clip (cellOf (coord X V r e))) (fun e => clip (cellOf (coord X V r e) + 1#32)) W

/-- The largest absolute projection on one column, over the points within a distance `t`. -/
def span (t : EReal) (e : Fin 3) : EReal := Finset.fold max (Ideal.ofBits .f32 4286578688#32)
  (fun q : Fin 1024 => Scalar.select (BitVec.ofBool (decide (sqd X r q ≤ t)))
    (FloatOps.absf (F := Ideal) (φ := .f32)
      ((X r 0 * V 0 e + X r 1 * V 1 e + X r 2 * V 2 e) - ∑ c, V c e * X q c)) 0) Finset.univ

end

/-- The pattern of minus infinity. -/
theorem bottom : Ideal.ofBits .f32 4286578688#32 = (⊥ : EReal) := by
  simp [Ideal.ofBits, Ideal.ieee]

/-- An absolute value is not negative. -/
theorem abs_nonneg' (y : EReal) : 0 ≤ FloatOps.absf (F := Ideal) (φ := .f32) y := by
  show 0 ≤ max y (-y)
  rcases le_total 0 y with h | h
  · exact h.trans (le_max_left _ _)
  · exact (EReal.neg_nonneg.mpr h).trans (le_max_right _ _)

/-- The sign of a real number that is not zero. -/
theorem sign_pm (a : ℝ) (h : a ≠ 0) : Ideal.sign (a : EReal) = 1 ∨ Ideal.sign (a : EReal) = -1 := by
  show (((SignType.sign a : SignType) : ℝ) : EReal) = 1 ∨ (((SignType.sign a : SignType) : ℝ) : EReal) = -1
  rcases lt_or_gt_of_ne h with h | h
  · right; rw [sign_neg h]; simp
  · left; rw [sign_pos h]; simp

section
variable (X : Fin 1024 → Fin 3 → EReal) (V : Fin 3 → Fin 3 → EReal) (r : Fin 1024)
  (x : Fin 1024 → Fin 3 → ℝ) (v : Fin 3 → Fin 3 → ℝ)
  (hX : ∀ p c, X p c = (x p c : EReal)) (hV : ∀ c e, V c e = (v c e : EReal))

include hX in
/-- Distances of finite points are finite. -/
theorem sqd_real (q : Fin 1024) : ∃ a : ℝ, sqd X r q = (a : EReal) := by
  obtain ⟨b, hb⟩ := big_real
  unfold sqd
  rw [two_real, hb]
  simp only [hX, Fin.sum_univ_three, ← EReal.coe_mul, ← EReal.coe_add, ← EReal.coe_sub]
  split
  · exact ⟨_, (EReal.coe_add _ _).symm⟩
  · exact ⟨_, add_zero _⟩

include hX in
/-- Distances of finite points are below infinity. -/
theorem sqd_lt (q : Fin 1024) : sqd X r q < ⊤ := by
  obtain ⟨a, ha⟩ := sqd_real X r x hX q
  rw [ha]
  exact EReal.coe_lt_top a

include hX hV

/-- A projection of an offset is finite. -/
theorem along_real (k : Fin 1024) (e : Fin 3) : ∃ a : ℝ, along X V r k e = (a : EReal) := by
  unfold along offset
  simp only [hX, hV, Fin.sum_univ_three, ← EReal.coe_mul, ← EReal.coe_add, ← EReal.coe_sub]
  exact ⟨_, rfl⟩

/-- The second call's projection is the offset's. -/
theorem proj_eq (k : Fin 1024) (e : Fin 3) :
    (X r 0 * V 0 e + X r 1 * V 1 e + X r 2 * V 2 e) - ∑ c, V c e * X (nbr X r k) c = along X V r k e := by
  unfold along offset
  generalize nbr X r k = q
  simp only [hX, hV, Fin.sum_univ_three, ← EReal.coe_mul, ← EReal.coe_add, ← EReal.coe_sub]
  congr 1
  ring

/-- The sum over the neighbours is finite. -/
theorem third_real : ∃ a : ℝ, third X V r = (a : EReal) := by
  choose a ha using along_real X V r x v hX hV
  unfold third
  simp only [ha]
  exact ⟨∑ k : Fin 20, a (k.castLE (by decide)) 2, by push_cast; rfl⟩

/-- Summing the offsets first gives the same. -/
theorem third_swap :
    (∑ k : Fin 20, offset X r (k.castLE (by decide)) 0) * V 0 2
      + (∑ k : Fin 20, offset X r (k.castLE (by decide)) 1) * V 1 2
      + (∑ k : Fin 20, offset X r (k.castLE (by decide)) 2) * V 2 2 = third X V r := by
  have h : ∀ k c, offset X r k c = ((x r c - x (nbr X r k) c : ℝ) : EReal) := fun k c => by
    unfold offset; rw [hX, hX, EReal.coe_sub]
  have hs : ∀ c, (∑ k : Fin 20, offset X r (k.castLE (by decide)) c)
      = ((∑ k : Fin 20, (x r c - x (nbr X r (k.castLE (by decide))) c) : ℝ) : EReal) := fun c => by
    simp only [h]; push_cast; rfl
  have ht : third X V r = ((∑ k : Fin 20, ∑ c, (x r c - x (nbr X r (k.castLE (by decide))) c) * v c 2 : ℝ) : EReal) := by
    unfold third along
    simp only [h, hV]
    push_cast
    rfl
  rw [hs, hs, hs, ht, hV, hV, hV]
  simp only [← EReal.coe_mul, ← EReal.coe_add, Fin.sum_univ_three, Finset.sum_mul, Finset.sum_add_distrib]

/-- An offset along the turned frame is finite. -/
theorem turned_real (k : Fin 20) (e : Fin 3) : ∃ a : ℝ, turned X V r k e = (a : EReal) := by
  obtain ⟨t, ht⟩ := third_real X V r x v hX hV
  unfold turned
  split
  · exact along_real X V r x v hX hV _ e
  · obtain ⟨a, ha⟩ := along_real X V r x v hX hV (k.castLE (by decide)) 2
    rw [ha, ht]
    exact ⟨a * ((SignType.sign t : SignType) : ℝ), (EReal.coe_mul _ _).symm⟩

variable (h3 : third X V r ≠ 0)
include h3

/-- Turning changes no absolute value. -/
theorem abs_turned (k : Fin 20) (e : Fin 3) :
    FloatOps.absf (F := Ideal) (φ := .f32) (turned X V r k e)
      = FloatOps.absf (F := Ideal) (φ := .f32) (along X V r (k.castLE (by decide)) e) := by
  obtain ⟨t, ht⟩ := third_real X V r x v hX hV
  have ht0 : t ≠ 0 := by
    rintro rfl
    exact h3 (by rw [ht]; rfl)
  unfold turned
  split
  · rfl
  · rename_i he
    have : e = 2 := Fin.ext (by have := e.isLt; show e.val = 2; omega)
    subst this
    show max (_ * _) (-(_ * _)) = max _ (-_)
    rw [ht]
    rcases sign_pm t ht0 with h | h
    · rw [h, mul_one]
    · rw [h, mul_neg, mul_one, neg_neg, max_comm]

/-- The second call's largest projection is the neighbours' largest. -/
theorem reach_eq (gap : sqd X r (nbr X r 19) < sqd X r (nbr X r 20)) :
    max (max (span X V r (sqd X r (nbr X r 19)) 0) (span X V r (sqd X r (nbr X r 19)) 1))
      (span X V r (sqd X r (nbr X r 19)) 2) = reach X V r := by
  have key := le_iff_place (sqd X r) 19 20 rfl gap
  have hsel : ∀ (e : Fin 3) (k : Fin 20), FloatOps.absf (F := Ideal) (φ := .f32) (turned X V r k e)
      ≤ span X V r (sqd X r (nbr X r 19)) e := by
    intro e k
    rw [abs_turned X V r x v hX hV h3]
    refine (Finset.le_fold_max _).2 (Or.inr ⟨nbr X r (k.castLE (by decide)), Finset.mem_univ _, ?_⟩)
    have : sqd X r (nbr X r (k.castLE (by decide))) ≤ sqd X r (nbr X r 19) :=
      (key _).2 ⟨k.castLE (by decide), by
        have := k.isLt
        rw [Fin.le_def]; show k.val ≤ 19; omega, rfl⟩
    rw [decide_eq_true this]
    rw [proj_eq X V r x v hX hV]
    exact le_refl _
  have hle : ∀ e : Fin 3, span X V r (sqd X r (nbr X r 19)) e ≤ reach X V r := by
    intro e
    refine (Finset.fold_max_le _).2 ⟨by rw [bottom]; exact bot_le, fun q _ => ?_⟩
    have h0 : (0 : EReal) ≤ reach X V r :=
      (abs_nonneg' _).trans ((Finset.le_fold_max _).2 (Or.inr ⟨(0, 0), Finset.mem_univ _, le_refl _⟩))
    by_cases hq : sqd X r q ≤ sqd X r (nbr X r 19)
    · rw [decide_eq_true hq]
      obtain ⟨j, hj, hjq⟩ := (key q).1 hq
      have hj' : j.val < 20 := by
        rw [Fin.le_def] at hj
        have : (19 : Fin 1024).val = 19 := rfl
        omega
      have e1 : q = nbr X r ((⟨j.val, hj'⟩ : Fin 20).castLE (by decide)) := hjq.symm
      rw [e1, proj_eq X V r x v hX hV, ← abs_turned X V r x v hX hV h3]
      exact (Finset.le_fold_max _).2 (Or.inr ⟨(⟨j.val, hj'⟩, e), Finset.mem_univ _, le_refl _⟩)
    · rw [decide_eq_false hq]
      exact h0
  apply le_antisymm
  · exact max_le (max_le (hle 0) (hle 1)) (hle 2)
  · refine (Finset.fold_max_le _).2 ⟨by rw [bottom]; exact bot_le, fun y _ => ?_⟩
    refine (hsel y.2 y.1).trans ?_
    obtain ⟨k, e⟩ := y
    fin_cases e
    · exact (le_max_left _ _).trans (le_max_left _ _)
    · exact (le_max_right _ _).trans (le_max_left _ _)
    · exact le_max_right _ _

/-- The largest projection is a positive real number. -/
theorem reach_pos : ∃ a : ℝ, reach X V r = (a : EReal) ∧ 0 < a := by
  have hk : ∃ k : Fin 20, along X V r (k.castLE (by decide)) 2 ≠ 0 := by
    by_contra hn
    push Not at hn
    exact h3 (Finset.sum_eq_zero fun k _ => hn k)
  obtain ⟨k, hk⟩ := hk
  obtain ⟨a, ha⟩ := along_real X V r x v hX hV (k.castLE (by decide)) 2
  have ha0 : a ≠ 0 := by
    rintro rfl
    exact hk (by rw [ha]; rfl)
  have hpos : 0 < reach X V r := by
    have h1 : FloatOps.absf (F := Ideal) (φ := .f32) (turned X V r k 2) ≤ reach X V r :=
      (Finset.le_fold_max _).2 (Or.inr ⟨(k, 2), Finset.mem_univ _, le_refl _⟩)
    refine lt_of_lt_of_le ?_ h1
    rw [abs_turned X V r x v hX hV h3, ha]
    show (0 : EReal) < max (a : EReal) (-(a : EReal))
    rcases lt_or_gt_of_ne ha0 with h | h
    · refine lt_of_lt_of_le ?_ (le_max_right _ _)
      rw [← EReal.coe_neg]
      exact_mod_cast neg_pos.mpr h
    · refine lt_of_lt_of_le ?_ (le_max_left _ _)
      exact_mod_cast h
  have htop : reach X V r < ⊤ := by
    refine (Finset.fold_max_lt _).2 ⟨by rw [bottom]; exact bot_lt_top, fun y _ => ?_⟩
    obtain ⟨b, hb⟩ := turned_real X V r x v hX hV y.1 y.2
    rw [hb]
    show max (b : EReal) (-(b : EReal)) < ⊤
    rw [← EReal.coe_neg]
    exact max_lt (EReal.coe_lt_top _) (EReal.coe_lt_top _)
  generalize reach X V r = m at hpos htop
  induction m using EReal.rec with
  | bot => simp at hpos
  | coe m => exact ⟨m, rfl, by exact_mod_cast hpos⟩
  | top => simp at htop

/-- A position in the grid is a real number. -/
theorem coord_real (e : Fin 3) : ∃ a : ℝ, coord X V r e = (a : EReal) := by
  obtain ⟨m, hm, hm0⟩ := reach_pos X V r x v hX hV h3
  obtain ⟨a, ha⟩ := turned_real X V r x v hX hV 0 e
  unfold coord Ideal.div
  rw [hm, ha, half_real, four_real, if_neg (by exact_mod_cast hm0.ne'), ← EReal.coe_inv]
  simp only [← EReal.coe_mul, ← EReal.coe_add]
  exact ⟨_, rfl⟩

/-- The part beyond the cell is between 0 and 1. -/
theorem frac_bounds (e : Fin 3) : 0 ≤ frac (coord X V r e) ∧ 0 ≤ 1 - frac (coord X V r e) := by
  obtain ⟨a, ha⟩ := coord_real X V r x v hX hV h3 e
  rw [ha]
  have hf : frac (a : EReal) = ((Int.fract a : ℝ) : EReal) := by
    show (a : EReal) - ((⌊a⌋ : ℝ) : EReal) = _
    rw [← EReal.coe_sub]
    rfl
  rw [hf]
  constructor
  · exact_mod_cast Int.fract_nonneg a
  · have : (1 : EReal) - ((Int.fract a : ℝ) : EReal) = ((1 - Int.fract a : ℝ) : EReal) := by
      rw [EReal.coe_sub]; rfl
    rw [this]
    exact_mod_cast sub_nonneg.mpr (Int.fract_lt_one a).le

end

/-- One corner put into a row of weights. -/
theorem corner_step {n : Nat} (A : Fin n → EReal) (hA : ∀ j, 0 ≤ A j) (c : Fin n) (f : EReal) (hf : 0 ≤ f) (W : Fin n → EReal) :
    ∑ j, (A j + if j = c then f else 0) * W j = (∑ j, A j * W j) + f * W c := by
  have : ∀ j, (A j + if j = c then f else 0) * W j = A j * W j + (if j = c then f * W j else 0) := by
    intro j
    rw [EReal.right_distrib_of_nonneg (hA j) (by split <;> [exact hf; exact le_refl _])]
    congr 1
    split
    · rfl
    · exact zero_mul _
  simp only [this, Finset.sum_add_distrib, Finset.sum_ite_eq', Finset.sum_ite_eq, Finset.mem_univ, if_true]

/-- A corner's entry is not negative. -/
theorem corner_nonneg {n : Nat} (j c : Fin n) (f : EReal) (hf : 0 ≤ f) : (0 : EReal) ≤ if j = c then f else 0 := by
  split
  · exact hf
  · exact le_refl _

/-- The second call's sum over the cells is the spline. -/
theorem spline_eq (f g : Fin 3 → EReal) (l h : Fin 3 → BitVec 32) (W : Fin 125 → EReal)
    (hf : ∀ e, 0 ≤ f e) (hg : ∀ e, 0 ≤ g e) :
    ∑ j : Fin 125, ((if j = cellRow (cellWord (l 0) (l 1) (l 2)) then f 0 * f 1 * f 2 else 0)
        + (if j = cellRow (cellWord (l 0) (l 1) (h 2)) then f 0 * f 1 * g 2 else 0)
        + (if j = cellRow (cellWord (l 0) (h 1) (l 2)) then f 0 * g 1 * f 2 else 0)
        + (if j = cellRow (cellWord (l 0) (h 1) (h 2)) then f 0 * g 1 * g 2 else 0)
        + (if j = cellRow (cellWord (h 0) (l 1) (l 2)) then g 0 * f 1 * f 2 else 0)
        + (if j = cellRow (cellWord (h 0) (l 1) (h 2)) then g 0 * f 1 * g 2 else 0)
        + (if j = cellRow (cellWord (h 0) (h 1) (l 2)) then g 0 * g 1 * f 2 else 0)
        + (if j = cellRow (cellWord (h 0) (h 1) (h 2)) then g 0 * g 1 * g 2 else 0)) * W j
      = spline f g l h W := by
  have m : ∀ a b c : EReal, 0 ≤ a → 0 ≤ b → 0 ≤ c → 0 ≤ a * b * c := fun a b c ha hb hc =>
    mul_nonneg (mul_nonneg ha hb) hc
  have n1 := m _ _ _ (hf 0) (hf 1) (hf 2)
  have n2 := m _ _ _ (hf 0) (hf 1) (hg 2)
  have n3 := m _ _ _ (hf 0) (hg 1) (hf 2)
  have n4 := m _ _ _ (hf 0) (hg 1) (hg 2)
  have n5 := m _ _ _ (hg 0) (hf 1) (hf 2)
  have n6 := m _ _ _ (hg 0) (hf 1) (hg 2)
  have n7 := m _ _ _ (hg 0) (hg 1) (hf 2)
  have n8 := m _ _ _ (hg 0) (hg 1) (hg 2)
  unfold spline
  have p1 := fun j => corner_nonneg j (cellRow (cellWord (l 0) (l 1) (l 2))) _ n1
  have p2 := fun j => add_nonneg (p1 j) (corner_nonneg j (cellRow (cellWord (l 0) (l 1) (h 2))) _ n2)
  have p3 := fun j => add_nonneg (p2 j) (corner_nonneg j (cellRow (cellWord (l 0) (h 1) (l 2))) _ n3)
  have p4 := fun j => add_nonneg (p3 j) (corner_nonneg j (cellRow (cellWord (l 0) (h 1) (h 2))) _ n4)
  have p5 := fun j => add_nonneg (p4 j) (corner_nonneg j (cellRow (cellWord (h 0) (l 1) (l 2))) _ n5)
  have p6 := fun j => add_nonneg (p5 j) (corner_nonneg j (cellRow (cellWord (h 0) (l 1) (h 2))) _ n6)
  have p7 := fun j => add_nonneg (p6 j) (corner_nonneg j (cellRow (cellWord (h 0) (h 1) (l 2))) _ n7)
  rw [corner_step _ p7 _ _ n8, corner_step _ p6 _ _ n7, corner_step _ p5 _ _ n6, corner_step _ p4 _ _ n5,
    corner_step _ p3 _ _ n4, corner_step _ p2 _ _ n3, corner_step _ p1 _ _ n2]
  have z := corner_step (fun _ : Fin 125 => (0 : EReal)) (fun _ => le_refl _) (cellRow (cellWord (l 0) (l 1) (l 2))) _ n1 W
  simp only [zero_add, zero_mul, Finset.sum_const_zero] at z
  rw [z]

end Cert.Knn
-- ==== Proof.Call2.lean ====
module

public import proofs.«01_k».proof.Proof.Call1
public import proofs.«01_k».proof.Proof.Local

/-!
The second call's positions in the spline's grid, read at a point of a sample.
-/

@[expose] public section

set_option maxRecDepth 16384

noncomputable section

open Idealize.ShloMosaic Idealize.ShloMosaic.TcCoe Idealize.SL.Sem
open Cert.KernelIdeal Cert.KernelIdeal.Gen Cert.Knn

namespace Cert.KernelIdeal.Knn

section
variable {F : FTy → Type} [FloatOps F]

/-- The largest absolute value, over the marked columns, of a column less a product of tables. -/
def maxAbs (p : FVec F S1024x3 .f32) (mask : IVec S1024x1024 1) (w : FVec F S1024x3 .f32) (a : FVec F S1024x1 .f32) :
    FVec F S1024x1 .f32 :=
  shapeCast S1024x1 (multiReduction .maximumf [1] S1024
    (select mask (absf (subf (broadcastTo S1024x1024 a broadcasts_S1024x1_S1024x1024)
      (matmul dot_S1024x3_S1024x3_S1024x1024_1_1_0_0_n_n none w p (constant S1024x1024 .f32 0x00000000#32))))
      (broadcast S1024x1024 (Scalar.ofBits .f32 0x00000000#32)))
    0xFF800000#32 reduces_S1024x1024_S1024 (.inl rfl) rfl) shapeCasts_S1024_S1024x1

/-- The first two columns' largest projections. -/
theorem two_columns (p : FVec F S1024x3 .f32) (v : FVec F S1024x9 .f32) (mask : IVec S1024x1024 1) (w : FVec F S1024x3 .f32)
    (a b : FVec F S1024x1 .f32) :
    k1_pay17 p v mask w a b = maximumf (maxAbs p mask w (addf a b))
      (maxAbs p mask (concatenate S1024x3 1 [⟨S1024x1, k1_pay14 v⟩, ⟨S1024x1, k1_pay15 v⟩, ⟨S1024x1, k1_pay16 v⟩]
        concatenates_S1024x1_S1024x1_S1024x1_S1024x3_d1) (k1_pay18 v p)) := rfl

/-- The third column's, joined to them. -/
theorem three_columns (p : FVec F S1024x3 .f32) (mask : IVec S1024x1024 1) (m v8 : FVec F S1024x1 .f32)
    (w : FVec F S1024x3 .f32) (a b : FVec F S1024x1 .f32) :
    k1_pay25 p mask m v8 w a b = maximumf m (maxAbs p mask w (addf (addf a b)
      (mulf (extractStridedSlice S1024x1 ![0, 2] p slices_S1024x3_o0_2_S1024x1) v8))) := rfl

/-- The sign of a column, spelt with selects. -/
def signs (s : FVec F S1024x1 .f32) : FVec F S1024x1 .f32 :=
  select (cmpf .ogt (absf s) (broadcast S1024x1 (Scalar.ofBits .f32 0x00000000#32)))
    (select (cmpf .olt s (constant S1024x1 .f32 0x00000000#32)) (constant S1024x1 .f32 0xBF800000#32)
      (constant S1024x1 .f32 0x3F800000#32)) s

/-- A row of a table against the third column of the frame. -/
def lastDot (x : FVec F S1024x3 .f32) (a b c : FVec F S1024x1 .f32) : FVec F S1024x1 .f32 :=
  addf (addf (mulf (extractStridedSlice S1024x1 ![0, 0] x slices_S1024x3_o0_0_S1024x1) a)
    (mulf (extractStridedSlice S1024x1 ![0, 1] x slices_S1024x3_o0_1_S1024x1) b))
    (mulf (extractStridedSlice S1024x1 ![0, 2] x slices_S1024x3_o0_2_S1024x1) c)

/-- The third coordinate before the division. -/
theorem turned_column (v : FVec F S1024x9 .f32) (s n : FVec F S1024x3 .f32) (a b c : FVec F S1024x1 .f32) :
    k1_pay26 v s n a b c = mulf (lastDot n a b c) (signs (lastDot s
      (extractStridedSlice S1024x1 ![0, 2] v slices_S1024x9_o0_2_S1024x1)
      (extractStridedSlice S1024x1 ![0, 5] v slices_S1024x9_o0_5_S1024x1)
      (extractStridedSlice S1024x1 ![0, 8] v slices_S1024x9_o0_8_S1024x1))) := rfl

end

/-- The sign by selects is the sign. -/
theorem signs_at (s : FVec Ideal S1024x1 .f32) (r : Fin 1024) :
    signs s (ix2 r 0) = Ideal.sign (s (ix2 r 0)) := by
  pointwise [signs]
  generalize s (ix2 r 0) = y
  rw [show Ideal.ofBits FTy.f32 3212836864#32 = -1 from IdealRules.sign_bit.ideal_negOnePat .f32]
  show (if 0 < max y (-y) then if y < 0 then -1 else 1 else y) = _
  induction y using EReal.rec with
  | bot => simp [Ideal.sign]; rfl
  | top => simp [Ideal.sign]; rfl
  | coe a =>
    show _ = (((SignType.sign a : SignType) : ℝ) : EReal)
    rcases lt_trichotomy a 0 with h | h | h
    · have h' : (a : EReal) < 0 := by exact_mod_cast h
      have hn : (0 : EReal) < max (a : EReal) (-(a : EReal)) := by
        refine lt_of_lt_of_le ?_ (le_max_right _ _)
        rw [← EReal.coe_neg]
        exact_mod_cast neg_pos.mpr h
      rw [if_pos hn, if_pos h', sign_neg h]
      simp
    · subst h
      simp
    · have h' : ¬ (a : EReal) < 0 := by
        have : (0 : EReal) < (a : EReal) := by exact_mod_cast h
        exact not_lt.mpr this.le
      have hn : (0 : EReal) < max (a : EReal) (-(a : EReal)) := by
        refine lt_of_lt_of_le ?_ (le_max_left _ _)
        exact_mod_cast h
      rw [if_pos hn, if_neg h', sign_pos h]
      simp

/-- Such a row product, read at a point. -/
theorem lastDot_at (x : FVec Ideal S1024x3 .f32) (a b c : FVec Ideal S1024x1 .f32) (r : Fin 1024) :
    lastDot x a b c (ix2 r 0) = x (ix2 r 0) * a (ix2 r 0) + x (ix2 r 1) * b (ix2 r 0) + x (ix2 r 2) * c (ix2 r 0) := by
  pointwise [lastDot]

/-- The frame of a point, out of its nine numbers. -/
def frameOf (x1 : Vec Ideal S1x1024x9 .f32) (r : Fin 1024) (c e : Fin 3) : EReal :=
  x1 (ix3 0 r ⟨c.val * 3 + e.val, by omega⟩)

/-- The largest absolute value of such a column, read at a point. -/
theorem maxAbs_at (p : FVec Ideal S1024x3 .f32) (mask : IVec S1024x1024 1) (w : FVec Ideal S1024x3 .f32)
    (a : FVec Ideal S1024x1 .f32) (r : Fin 1024) :
    maxAbs p mask w a (ix2 r 0) = Finset.fold max (Ideal.ofBits .f32 4286578688#32)
      (fun q => Scalar.select (mask (ix2 r q)) (FloatOps.absf (F := Ideal) (φ := .f32)
        (a (ix2 r 0) - ∑ c, w (ix2 r c) * p (ix2 q c))) 0) Finset.univ := by
  pointwise [maxAbs]

/-- The largest projection on a column. -/
theorem maxAbs_span (p : FVec Ideal S1024x3 .f32) (mask : IVec S1024x1024 1) (w : FVec Ideal S1024x3 .f32)
    (a : FVec Ideal S1024x1 .f32) (r : Fin 1024) (X : Fin 1024 → Fin 3 → EReal) (V : Fin 3 → Fin 3 → EReal) (t : EReal)
    (e : Fin 3) (hp : ∀ q c, p (ix2 q c) = X q c)
    (hm : ∀ q, mask (ix2 r q) = BitVec.ofBool (decide (sqd X r q ≤ t)))
    (hw : ∀ c, w (ix2 r c) = V c e) (ha : a (ix2 r 0) = X r 0 * V 0 e + X r 1 * V 1 e + X r 2 * V 2 e) :
    maxAbs p mask w a (ix2 r 0) = span X V r t e := by
  rw [maxAbs_at]
  simp only [hp, hm, hw, ha]
  rfl

section
variable (x0 : Vec Ideal S1x1024x3 .f32) (x1 : Vec Ideal S1x1024x9 .f32) (x2 x3 : Vec Ideal S1x1024x3 .f32)
  (x4 : Vec Ideal S1x1024x1 .f32) (x5 : Vec Ideal S125x32 .f32) (x6 x7 : Vec Ideal S1x32 .f32) (r : Fin 1024)

/-- The table of points the second call works on, read. -/
theorem table_points (q : Fin 1024) (c : Fin 3) :
    k1_pay73 x0 x1 x2 x3 x4 x5 x6 x7 (ix2 q c) = pnt x0 q c := by
  unfold k1_pay73
  pointwise [k1_pay2]
  rfl

/-- The marks of the points within the twentieth distance. -/
theorem mask_at (q : Fin 1024) : k1_pay76 x0 x1 x2 x3 x4 x5 x6 x7 (ix2 r q)
    = BitVec.ofBool (decide (sqd (pnt x0) r q ≤ x4 (ix3 0 r 0))) := by
  unfold k1_pay76
  pointwise [k1_pay6, k1_pay2]
  rw [select_diag]
  have : sqd (pnt x0) r q = if r = q then (∑ c, pnt x0 r c * pnt x0 r c) + (∑ c, pnt x0 q c * pnt x0 q c)
      - two * (∑ c, pnt x0 r c * pnt x0 q c) + big else (∑ c, pnt x0 r c * pnt x0 r c) + (∑ c, pnt x0 q c * pnt x0 q c)
      - two * ∑ c, pnt x0 r c * pnt x0 q c := by
    unfold sqd
    by_cases h : r = q
    · simp [h]
    · simp [h]
  rw [this]
  rfl

/-- The largest projection over the neighbours, as the call finds it. -/
theorem largest_at : k1_pay82 x0 x1 x2 x3 x4 x5 x6 x7 (ix2 r 0)
    = max (max (span (pnt x0) (frameOf x1 r) r (x4 (ix3 0 r 0)) 0) (span (pnt x0) (frameOf x1 r) r (x4 (ix3 0 r 0)) 1))
      (span (pnt x0) (frameOf x1 r) r (x4 (ix3 0 r 0)) 2) := by
  have hp := table_points x0 x1 x2 x3 x4 x5 x6 x7
  have hm := mask_at x0 x1 x2 x3 x4 x5 x6 x7 r
  have mx : ∀ a b : FVec Ideal S1024x1 .f32, maximumf a b (ix2 r 0) = max (a (ix2 r 0)) (b (ix2 r 0)) := fun _ _ => rfl
  unfold k1_pay82 k1_pay77
  rw [three_columns, two_columns, mx, mx]
  refine congrArg₂ max (congrArg₂ max ?_ ?_) ?_
  · refine maxAbs_span _ _ _ _ r (pnt x0) (frameOf x1 r) (x4 (ix3 0 r 0)) 0 hp hm ?_ ?_
    · intro c
      pointwise [k1_pay10, k1_pay7, k1_pay8, k1_pay9, k1_pay3]
      fin_cases c <;> rfl
    · pointwise [k1_pay11, k1_pay12, k1_pay7, k1_pay8, k1_pay9, k1_pay3, k1_pay2]
      rfl
  · refine maxAbs_span _ _ _ _ r (pnt x0) (frameOf x1 r) (x4 (ix3 0 r 0)) 1 hp hm ?_ ?_
    · intro c
      unfold k1_pay74
      pointwise [k1_pay14, k1_pay15, k1_pay16, k1_pay3]
      fin_cases c <;> rfl
    · unfold k1_pay74 k1_pay73
      pointwise [k1_pay18, k1_pay14, k1_pay15, k1_pay16, k1_pay3, k1_pay2]
      rfl
  · refine maxAbs_span _ _ _ _ r (pnt x0) (frameOf x1 r) (x4 (ix3 0 r 0)) 2 hp hm ?_ ?_
    · intro c
      unfold k1_pay79 k1_pay74
      pointwise [k1_pay22, k1_pay19, k1_pay20, k1_pay21, k1_pay3]
      fin_cases c <;> rfl
    · unfold k1_pay80 k1_pay81 k1_pay78 k1_pay74 k1_pay73
      pointwise [k1_pay23, k1_pay24, k1_pay19, k1_pay20, k1_pay21, k1_pay3, k1_pay2]
      rfl

/-- The three positions, over the largest projection. -/
theorem pos0_at : k1_pay29 (k1_pay84 x0 x1 x2 x3 x4 x5 x6 x7) (ix2 r 0)
    = (Ideal.div (x3 (ix3 0 r 0) * frameOf x1 r 0 0 + x3 (ix3 0 r 1) * frameOf x1 r 1 0 + x3 (ix3 0 r 2) * frameOf x1 r 2 0)
        (k1_pay82 x0 x1 x2 x3 x4 x5 x6 x7 (ix2 r 0)) * half + half) * four := by
  have e : k1_pay84 x0 x1 x2 x3 x4 x5 x6 x7 = addf (mulf (divf (k1_pay13 (k1_pay75 x0 x1 x2 x3 x4 x5 x6 x7)
      (k1_pay7 (View.ld x1 r1_1)) (k1_pay8 (View.ld x1 r1_1)) (k1_pay9 (View.ld x1 r1_1)))
      (k1_pay82 x0 x1 x2 x3 x4 x5 x6 x7)) (broadcast S1024x1 (Scalar.ofBits .f32 0x3F000000#32)))
      (broadcast S1024x1 (Scalar.ofBits .f32 0x3F000000#32)) := rfl
  rw [e]
  generalize k1_pay82 x0 x1 x2 x3 x4 x5 x6 x7 = m
  unfold k1_pay75
  pointwise [k1_pay29, k1_pay13, k1_pay5, k1_pay7, k1_pay8, k1_pay9, k1_pay3]
  rfl

/-- The second coordinate of the position. -/
theorem pos1_at : k1_pay30 (k1_pay85 x0 x1 x2 x3 x4 x5 x6 x7) (ix2 r 0)
    = (Ideal.div (x3 (ix3 0 r 0) * frameOf x1 r 0 1 + x3 (ix3 0 r 1) * frameOf x1 r 1 1 + x3 (ix3 0 r 2) * frameOf x1 r 2 1)
        (k1_pay82 x0 x1 x2 x3 x4 x5 x6 x7 (ix2 r 0)) * half + half) * four := by
  have e : k1_pay85 x0 x1 x2 x3 x4 x5 x6 x7 = addf (mulf (divf (k1_pay18 (k1_pay74 x0 x1 x2 x3 x4 x5 x6 x7)
      (k1_pay75 x0 x1 x2 x3 x4 x5 x6 x7))
      (k1_pay82 x0 x1 x2 x3 x4 x5 x6 x7)) (broadcast S1024x1 (Scalar.ofBits .f32 0x3F000000#32)))
      (broadcast S1024x1 (Scalar.ofBits .f32 0x3F000000#32)) := rfl
  rw [e]
  generalize k1_pay82 x0 x1 x2 x3 x4 x5 x6 x7 = m
  unfold k1_pay75 k1_pay74
  pointwise [k1_pay30, k1_pay18, k1_pay5, k1_pay14, k1_pay15, k1_pay16, k1_pay3]
  rfl

/-- The third coordinate of the position, its sign turned. -/
theorem pos2_at : k1_pay31 (k1_pay82 x0 x1 x2 x3 x4 x5 x6 x7) (k1_pay83 x0 x1 x2 x3 x4 x5 x6 x7) (ix2 r 0)
    = (Ideal.div ((x3 (ix3 0 r 0) * frameOf x1 r 0 2 + x3 (ix3 0 r 1) * frameOf x1 r 1 2 + x3 (ix3 0 r 2) * frameOf x1 r 2 2)
          * Ideal.sign (x2 (ix3 0 r 0) * frameOf x1 r 0 2 + x2 (ix3 0 r 1) * frameOf x1 r 1 2 + x2 (ix3 0 r 2) * frameOf x1 r 2 2))
        (k1_pay82 x0 x1 x2 x3 x4 x5 x6 x7 (ix2 r 0)) * half + half) * four := by
  have h83 : k1_pay83 x0 x1 x2 x3 x4 x5 x6 x7 (ix2 r 0)
      = (x3 (ix3 0 r 0) * frameOf x1 r 0 2 + x3 (ix3 0 r 1) * frameOf x1 r 1 2 + x3 (ix3 0 r 2) * frameOf x1 r 2 2)
          * Ideal.sign (x2 (ix3 0 r 0) * frameOf x1 r 0 2 + x2 (ix3 0 r 1) * frameOf x1 r 1 2 + x2 (ix3 0 r 2) * frameOf x1 r 2 2) := by
    unfold k1_pay83
    rw [turned_column, show ∀ a b : FVec Ideal S1024x1 .f32, mulf a b (ix2 r 0) = a (ix2 r 0) * b (ix2 r 0) from fun _ _ => rfl,
      signs_at, lastDot_at, lastDot_at]
    unfold k1_pay75 k1_pay78 k1_pay74
    pointwise [k1_pay4, k1_pay5, k1_pay19, k1_pay20, k1_pay21, k1_pay3]
    rfl
  rw [← h83]
  generalize k1_pay82 x0 x1 x2 x3 x4 x5 x6 x7 = m
  generalize k1_pay83 x0 x1 x2 x3 x4 x5 x6 x7 = u
  pointwise [k1_pay31]

end

end Cert.KernelIdeal.Knn
-- ==== Proof.Cells.lean ====
module

public import proofs.«01_k».proof.Proof.Gen.KernelIdeal.Frame
public import proofs.«01_k».proof.Proof.Local
public import Idealize.ShloMosaic.Lib.Pointwise
public import Idealize.ShloMosaic.Lib.Tactic.CleanTypes

/-!
The second call's result at a point: the spline over the eight cells around its position, with the
root weights and the bias.
-/

@[expose] public section

set_option maxRecDepth 16384

noncomputable section

open Idealize.ShloMosaic Idealize.ShloMosaic.TcCoe Idealize.SL.Sem
open Cert.KernelIdeal Cert.KernelIdeal.Gen Cert.Knn

namespace Cert.KernelIdeal.Knn

/-- A corner's weight, put at its row of the table. -/
theorem corner_sel (j : Fin 125) (a b c : BitVec 32) (y : EReal) :
    Scalar.select (IntOp.cmpi .eq (BitVec.ofNat 32 j.val)
      (IntOp.addi (IntOp.addi (IntOp.addi 0#32 (IntOp.muli (IntOp.minsi 4#32 (IntOp.maxsi 0#32 a)) 1#32))
        (IntOp.muli (IntOp.minsi 4#32 (IntOp.maxsi 0#32 b)) 5#32))
        (IntOp.muli (IntOp.minsi 4#32 (IntOp.maxsi 0#32 c)) 25#32))) y 0
      = if j = cellRow (cellWord (clip a) (clip b) (clip c)) then y else 0 := by
  have hw : IntOp.addi (IntOp.addi (IntOp.addi 0#32 (IntOp.muli (IntOp.minsi 4#32 (IntOp.maxsi 0#32 a)) 1#32))
        (IntOp.muli (IntOp.minsi 4#32 (IntOp.maxsi 0#32 b)) 5#32))
        (IntOp.muli (IntOp.minsi 4#32 (IntOp.maxsi 0#32 c)) 25#32) = cellWord (clip a) (clip b) (clip c) := by
    show (0#32 + clip a * 1#32) + clip b * 5#32 + clip c * 25#32 = clip a + clip b * 5#32 + clip c * 25#32
    rw [BitVec.zero_add, BitVec.mul_one]
  rw [hw]
  by_cases h : j = cellRow (cellWord (clip a) (clip b) (clip c))
  · rw [if_pos h, (eq_cellWord a b c j).mpr h]
    simp [Scalar.select, IntOp.cmpi]
  · have h' : ¬ BitVec.ofNat 32 j.val = cellWord (clip a) (clip b) (clip c) := fun e => h ((eq_cellWord a b c j).mp e)
    rw [if_neg h]
    have : (BitVec.ofNat 32 j.val == cellWord (clip a) (clip b) (clip c)) = false := beq_eq_false_iff_ne.mpr h'
    simp [Scalar.select, IntOp.cmpi, this]

/-- The next cell by nothing is the cell. -/
theorem add_none (a : BitVec 32) : IntOp.addi a 0#32 = a := BitVec.add_zero a

section
variable (x0 : Vec Ideal S1x1024x3 .f32) (x1 : Vec Ideal S1x1024x9 .f32) (x2 x3 : Vec Ideal S1x1024x3 .f32)
  (x4 : Vec Ideal S1x1024x1 .f32) (x5 : Vec Ideal S125x32 .f32) (x6 x7 : Vec Ideal S1x32 .f32) (r : Fin 1024)

/-- The column numbers of the table of weights. -/
theorem columns_at (j : Fin 125) : k1_pay86 x0 x1 x2 x3 x4 x5 x6 x7 (ix2 r j) = BitVec.ofNat 32 j.val := by
  unfold k1_pay86
  pointwise

/-- The part beyond its cell and the cell of a position, for each of the three spellings. -/
theorem part0 (w : FVec Ideal S1024x1 .f32) : k1_pay35 w (ix2 r 0) = frac (k1_pay29 w (ix2 r 0)) := by
  unfold k1_pay35 k1_pay32; rfl
/-- The second fractional part. -/
theorem part1 (w : FVec Ideal S1024x1 .f32) : k1_pay36 w (ix2 r 0) = frac (k1_pay30 w (ix2 r 0)) := by
  unfold k1_pay36 k1_pay33; rfl
/-- The third fractional part. -/
theorem part2 (w u : FVec Ideal S1024x1 .f32) : k1_pay37 w u (ix2 r 0) = frac (k1_pay31 w u (ix2 r 0)) := by
  unfold k1_pay37 k1_pay34; rfl
/-- The first cell number. -/
theorem cell0 (w : FVec Ideal S1024x1 .f32) : k1_pay38 w (ix2 r 0) = cellOf (k1_pay29 w (ix2 r 0)) := by
  unfold k1_pay38 k1_pay32; rfl
/-- The second cell number. -/
theorem cell1 (w : FVec Ideal S1024x1 .f32) : k1_pay39 w (ix2 r 0) = cellOf (k1_pay30 w (ix2 r 0)) := by
  unfold k1_pay39 k1_pay33; rfl
/-- The third cell number. -/
theorem cell2 (w u : FVec Ideal S1024x1 .f32) : k1_pay40 w u (ix2 r 0) = cellOf (k1_pay31 w u (ix2 r 0)) := by
  unfold k1_pay40 k1_pay34; rfl

/-- The parts beyond the cells and the cells of three positions. -/
theorem parts_at : k1_pay87 x0 x1 x2 x3 x4 x5 x6 x7 (ix2 r 0) = frac (k1_pay29 (k1_pay84 x0 x1 x2 x3 x4 x5 x6 x7) (ix2 r 0))
    ∧ k1_pay88 x0 x1 x2 x3 x4 x5 x6 x7 (ix2 r 0) = frac (k1_pay30 (k1_pay85 x0 x1 x2 x3 x4 x5 x6 x7) (ix2 r 0))
    ∧ k1_pay89 x0 x1 x2 x3 x4 x5 x6 x7 (ix2 r 0)
      = frac (k1_pay31 (k1_pay82 x0 x1 x2 x3 x4 x5 x6 x7) (k1_pay83 x0 x1 x2 x3 x4 x5 x6 x7) (ix2 r 0)) := by
  refine ⟨?_, ?_, ?_⟩
  · unfold k1_pay87; rw [part0]
  · unfold k1_pay88; rw [part1]
  · unfold k1_pay89; rw [part2]
/-- The three cell numbers, read at a point. -/
theorem cells_at : k1_pay90 x0 x1 x2 x3 x4 x5 x6 x7 (ix2 r 0) = cellOf (k1_pay29 (k1_pay84 x0 x1 x2 x3 x4 x5 x6 x7) (ix2 r 0))
    ∧ k1_pay91 x0 x1 x2 x3 x4 x5 x6 x7 (ix2 r 0) = cellOf (k1_pay30 (k1_pay85 x0 x1 x2 x3 x4 x5 x6 x7) (ix2 r 0))
    ∧ k1_pay92 x0 x1 x2 x3 x4 x5 x6 x7 (ix2 r 0)
      = cellOf (k1_pay31 (k1_pay82 x0 x1 x2 x3 x4 x5 x6 x7) (k1_pay83 x0 x1 x2 x3 x4 x5 x6 x7) (ix2 r 0)) := by
  refine ⟨?_, ?_, ?_⟩
  · unfold k1_pay90; rw [cell0]
  · unfold k1_pay91; rw [cell1]
  · unfold k1_pay92; rw [cell2]

/-- The second call's result, given the three positions. -/
theorem spline_at (f : Fin 32) (P : Fin 3 → EReal)
    (h0 : k1_pay29 (k1_pay84 x0 x1 x2 x3 x4 x5 x6 x7) (ix2 r 0) = P 0)
    (h1 : k1_pay30 (k1_pay85 x0 x1 x2 x3 x4 x5 x6 x7) (ix2 r 0) = P 1)
    (h2 : k1_pay31 (k1_pay82 x0 x1 x2 x3 x4 x5 x6 x7) (k1_pay83 x0 x1 x2 x3 x4 x5 x6 x7) (ix2 r 0) = P 2)
    (hP : ∀ e, 0 ≤ frac (P e) ∧ 0 ≤ 1 - frac (P e)) :
    out1_8 x0 x1 x2 x3 x4 x5 x6 x7 (ix3 0 r f)
      = spline (fun e => 1 - frac (P e)) (fun e => frac (P e)) (fun e => clip (cellOf (P e)))
          (fun e => clip (cellOf (P e) + 1#32)) (fun j => x5 (ix2 j f)) + x6 (ix2 0 f) + x7 (ix2 0 f) := by
  have hi := columns_at x0 x1 x2 x3 x4 x5 x6 x7 r
  obtain ⟨p0, p1, p2⟩ := parts_at x0 x1 x2 x3 x4 x5 x6 x7 r
  obtain ⟨c0, c1, c2⟩ := cells_at x0 x1 x2 x3 x4 x5 x6 x7 r
  rw [h0] at p0 c0
  rw [h1] at p1 c1
  rw [h2] at p2 c2
  have e0 : k1_pay35 (k1_pay84 x0 x1 x2 x3 x4 x5 x6 x7) = k1_pay87 x0 x1 x2 x3 x4 x5 x6 x7 := rfl
  have e1 : k1_pay36 (k1_pay85 x0 x1 x2 x3 x4 x5 x6 x7) = k1_pay88 x0 x1 x2 x3 x4 x5 x6 x7 := rfl
  have e3 : k1_pay38 (k1_pay84 x0 x1 x2 x3 x4 x5 x6 x7) = k1_pay90 x0 x1 x2 x3 x4 x5 x6 x7 := rfl
  have e4 : k1_pay39 (k1_pay85 x0 x1 x2 x3 x4 x5 x6 x7) = k1_pay91 x0 x1 x2 x3 x4 x5 x6 x7 := rfl
  clear h0 h1 h2
  unfold out1_8
  frame_out
  generalize k1_pay84 x0 x1 x2 x3 x4 x5 x6 x7 = v84 at *
  generalize k1_pay85 x0 x1 x2 x3 x4 x5 x6 x7 = v85 at *
  generalize k1_pay86 x0 x1 x2 x3 x4 x5 x6 x7 = v86 at *
  generalize k1_pay87 x0 x1 x2 x3 x4 x5 x6 x7 = v87 at *
  generalize k1_pay88 x0 x1 x2 x3 x4 x5 x6 x7 = v88 at *
  generalize k1_pay89 x0 x1 x2 x3 x4 x5 x6 x7 = v89 at *
  generalize k1_pay90 x0 x1 x2 x3 x4 x5 x6 x7 = v90 at *
  generalize k1_pay91 x0 x1 x2 x3 x4 x5 x6 x7 = v91 at *
  generalize k1_pay92 x0 x1 x2 x3 x4 x5 x6 x7 = v92 at *
  simp only [k1_pay42, k1_pay43, k1_pay44, e0, e1, e3, e4]
  pointwise [k1_pay1, k1_pay69, k1_pay65, k1_pay61, k1_pay57, k1_pay53, k1_pay49, k1_pay45, k1_pay41, k1_pay46, k1_pay47, k1_pay48, k1_pay50, k1_pay51, k1_pay52, k1_pay54, k1_pay55, k1_pay56, k1_pay58, k1_pay59, k1_pay60, k1_pay62, k1_pay63, k1_pay64, k1_pay66, k1_pay67, k1_pay68, k1_pay70, k1_pay71, k1_pay72]
  simp only [hi, p0, p1, p2, c0, c1, c2, corner_sel, add_none]
  refine congrArg₂ (· + ·) (congrArg₂ (· + ·) ?_ rfl) rfl
  rw [← spline_eq _ _ _ _ _ (fun e => (hP e).2) (fun e => (hP e).1)]
  rfl

end

end Cert.KernelIdeal.Knn
-- ==== Proof.Message.lean ====
module

public import proofs.«01_k».proof.Proof.Call2
public import proofs.«01_k».proof.Proof.Cells

/-!
The second call's result at a point, when its other blocks are what the first call writes.
-/

@[expose] public section

set_option maxRecDepth 16384

noncomputable section

open Idealize.ShloMosaic Idealize.ShloMosaic.TcCoe Idealize.SL.Sem
open Cert.KernelIdeal Cert.KernelIdeal.Gen Cert.Knn

namespace Cert.KernelIdeal.Knn

/-- A sum over the three coordinates, spelt out, is the projection on a column of the frame. -/
theorem along_three (X : Fin 1024 → Fin 3 → EReal) (V : Fin 3 → Fin 3 → EReal) (r k : Fin 1024) (e : Fin 3) :
    offset X r k 0 * V 0 e + offset X r k 1 * V 1 e + offset X r k 2 * V 2 e = along X V r k e := by
  unfold along
  rw [Fin.sum_univ_three]

/-- The second call's result: the spline's message, the root weights and the bias. -/
theorem message_at (x0 : Vec Ideal S1x1024x3 .f32) (x1 : Vec Ideal S1x1024x9 .f32) (x2 x3 : Vec Ideal S1x1024x3 .f32)
    (x4 : Vec Ideal S1x1024x1 .f32) (x5 : Vec Ideal S125x32 .f32) (x6 x7 : Vec Ideal S1x32 .f32)
    (r : Fin 1024) (f : Fin 32) (e2 : x2 = out0_2 x0) (e3 : x3 = out0_3 x0) (e4 : x4 = out0_4 x0)
    (x : Fin 1024 → Fin 3 → ℝ) (v : Fin 3 → Fin 3 → ℝ)
    (hX : ∀ p c, pnt x0 p c = (x p c : EReal)) (hV : ∀ c e, frameOf x1 r c e = (v c e : EReal))
    (h3 : third (pnt x0) (frameOf x1 r) r ≠ 0)
    (gap : sqd (pnt x0) r (nbr (pnt x0) r 19) < sqd (pnt x0) r (nbr (pnt x0) r 20)) :
    out1_8 x0 x1 x2 x3 x4 x5 x6 x7 (ix3 0 r f)
      = message (pnt x0) (frameOf x1 r) r (fun j => x5 (ix2 j f)) + x6 (ix2 0 f) + x7 (ix2 0 f) := by
  have hd := sqd_lt (pnt x0) r x hX
  have h2 : ∀ c, x2 (ix3 0 r c) = ∑ k : Fin 20, offset (pnt x0) r (k.castLE (by decide)) c := fun c => by
    rw [e2]; exact out0_2_at x0 r hd c
  have hf : ∀ c, x3 (ix3 0 r c) = offset (pnt x0) r 0 c := fun c => by
    rw [e3]; exact out0_3_at x0 r hd c
  have hl : x4 (ix3 0 r 0) = sqd (pnt x0) r (nbr (pnt x0) r 19) := by
    rw [e4]; exact out0_4_at x0 r hd
  have hm := largest_at x0 x1 x2 x3 x4 x5 x6 x7 r
  rw [hl, reach_eq (pnt x0) (frameOf x1 r) r x v hX hV h3 gap] at hm
  have p0 := pos0_at x0 x1 x2 x3 x4 x5 x6 x7 r
  have p1 := pos1_at x0 x1 x2 x3 x4 x5 x6 x7 r
  have p2 := pos2_at x0 x1 x2 x3 x4 x5 x6 x7 r
  simp only [hf, h2] at p0 p1 p2
  rw [along_three, hm] at p0 p1
  rw [along_three, third_swap (pnt x0) (frameOf x1 r) r x v hX hV, hm] at p2
  exact spline_at x0 x1 x2 x3 x4 x5 x6 x7 r f (coord (pnt x0) (frameOf x1 r) r) p0 p1 p2
    (frac_bounds (pnt x0) (frameOf x1 r) r x v hX hV h3)

end Cert.KernelIdeal.Knn
-- ==== Proof.HeadModel.lean ====
module

public import proofs.«01_k».proof.Proof.Model

/-!
The network's head over a table of rows: normalization by the batch's mean and variance, the logistic
function, the mean of every sample, two dense layers and the logarithm of the softmax.
-/

@[expose] public section

noncomputable section

open Idealize.ShloMosaic

namespace Cert.Knn

/-- The mean of a column over all rows. -/
def mean (Y : Fin 32768 → Fin 32 → EReal) (f : Fin 32) : EReal :=
  Ideal.div (∑ n, Y n f) (Ideal.ofBits .f32 0x47000000#32)

/-- The variance of a column over all rows. -/
def variance (Y : Fin 32768 → Fin 32 → EReal) (f : Fin 32) : EReal :=
  Ideal.div (∑ n, (Y n f - mean Y f) * (Y n f - mean Y f)) (Ideal.ofBits .f32 0x47000000#32)

/-- The activation of an entry. -/
def activation (Y : Fin 32768 → Fin 32 → EReal) (g b : Fin 32 → EReal) (n : Fin 32768) (f : Fin 32) : EReal :=
  Ideal.logistic (Ideal.div (g f * (Y n f - mean Y f)) (Ideal.sqrt (variance Y f + Ideal.ofBits .f32 0x3727C5AC#32)) + b f)

/-- The mean over the rows of one sample. -/
def pooled (A : Fin 32768 → Fin 32 → EReal) (s : Fin 32) (f : Fin 32) : EReal :=
  Ideal.div (∑ p : Fin 1024, A ⟨s.val * 1024 + p.val, by omega⟩ f) (Ideal.ofBits .f32 0x44800000#32)

/-- A dense layer. -/
def dense {a k n : Nat} (M : Fin a → Fin k → EReal) (W : Fin k → Fin n → EReal) (b : Fin n → EReal)
    (i : Fin a) (j : Fin n) : EReal := ∑ l, M i l * W l j + b j

/-- The exponential linear unit. -/
def elu (y : EReal) : EReal := if 0 < y then y else Ideal.exp (min y 0) - 1

/-- The largest of forty numbers. -/
def peak (z : Fin 40 → EReal) : EReal := Finset.fold max (Ideal.ofBits .f32 0xFF800000#32) z Finset.univ

/-- The logarithm of the softmax. -/
def logSoftmax (z : Fin 40 → EReal) (k : Fin 40) : EReal :=
  z k - peak z - Ideal.log (∑ j, Ideal.exp (z j - peak z))

/-- The head's result for one sample. -/
def headOf (Y : Fin 32768 → Fin 32 → EReal) (g b : Fin 32 → EReal) (W1 : Fin 32 → Fin 256 → EReal) (b1 : Fin 256 → EReal)
    (W2 : Fin 256 → Fin 40 → EReal) (b2 : Fin 40 → EReal) (s : Fin 32) : Fin 40 → EReal :=
  logSoftmax (dense (fun s j => elu (dense (pooled (activation Y g b)) W1 b1 s j)) W2 b2 s)

end Cert.Knn
-- ==== Proof.Head.lean ====
module

public import proofs.«01_k».proof.Proof.Gen.KernelIdeal.Frame
public import proofs.«01_k».proof.Proof.HeadModel
public import Idealize.ShloMosaic.Lib.Pipeline.ValueKit
public import Idealize.ShloMosaic.Lib.Pointwise
public import Idealize.ShloMosaic.Lib.Tactic.CleanTypes

/-!
The third call's result, read at an index, is the head of the network.
-/

@[expose] public section

set_option maxRecDepth 16384

noncomputable section

open Idealize.ShloMosaic Idealize.ShloMosaic.TcCoe Idealize.SL.Sem
open Cert.KernelIdeal Cert.KernelIdeal.Gen Cert.Knn

namespace Cert.KernelIdeal.Knn

section
variable {F : FTy → Type} [FloatOps F]

/-- The mean of the rows of one sample, from row `o` on. -/
def tile (v : FVec F S32768x32 .f32) (o : Nat) (h : S32768x32.Slices ![o, 0] S1024x32) : FVec F S1x32 .f32 :=
  divf (shapeCast S1x32 (multiReduction .add [0] S32 (extractStridedSlice S1024x32 ![o, 0] v h) 0x00000000#32
    reduces_S1024x32_S32 (.inl rfl) rfl) shapeCasts_S32_S1x32) (broadcast S1x32 (Scalar.ofBits .f32 0x44800000#32))

/-- The means of all samples, one row each. -/
def rows (v : FVec F S32768x32 .f32) : FVec F S32x32 .f32 :=
  concatenate S32x32 0 [
      ⟨S1x32, tile v 0 slices_S32768x32_o0_0_S1024x32⟩,
      ⟨S1x32, tile v 1024 slices_S32768x32_o1024_0_S1024x32⟩,
      ⟨S1x32, tile v 2048 slices_S32768x32_o2048_0_S1024x32⟩,
      ⟨S1x32, tile v 3072 slices_S32768x32_o3072_0_S1024x32⟩,
      ⟨S1x32, tile v 4096 slices_S32768x32_o4096_0_S1024x32⟩,
      ⟨S1x32, tile v 5120 slices_S32768x32_o5120_0_S1024x32⟩,
      ⟨S1x32, tile v 6144 slices_S32768x32_o6144_0_S1024x32⟩,
      ⟨S1x32, tile v 7168 slices_S32768x32_o7168_0_S1024x32⟩,
      ⟨S1x32, tile v 8192 slices_S32768x32_o8192_0_S1024x32⟩,
      ⟨S1x32, tile v 9216 slices_S32768x32_o9216_0_S1024x32⟩,
      ⟨S1x32, tile v 10240 slices_S32768x32_o10240_0_S1024x32⟩,
      ⟨S1x32, tile v 11264 slices_S32768x32_o11264_0_S1024x32⟩,
      ⟨S1x32, tile v 12288 slices_S32768x32_o12288_0_S1024x32⟩,
      ⟨S1x32, tile v 13312 slices_S32768x32_o13312_0_S1024x32⟩,
      ⟨S1x32, tile v 14336 slices_S32768x32_o14336_0_S1024x32⟩,
      ⟨S1x32, tile v 15360 slices_S32768x32_o15360_0_S1024x32⟩,
      ⟨S1x32, tile v 16384 slices_S32768x32_o16384_0_S1024x32⟩,
      ⟨S1x32, tile v 17408 slices_S32768x32_o17408_0_S1024x32⟩,
      ⟨S1x32, tile v 18432 slices_S32768x32_o18432_0_S1024x32⟩,
      ⟨S1x32, tile v 19456 slices_S32768x32_o19456_0_S1024x32⟩,
      ⟨S1x32, tile v 20480 slices_S32768x32_o20480_0_S1024x32⟩,
      ⟨S1x32, tile v 21504 slices_S32768x32_o21504_0_S1024x32⟩,
      ⟨S1x32, tile v 22528 slices_S32768x32_o22528_0_S1024x32⟩,
      ⟨S1x32, tile v 23552 slices_S32768x32_o23552_0_S1024x32⟩,
      ⟨S1x32, tile v 24576 slices_S32768x32_o24576_0_S1024x32⟩,
      ⟨S1x32, tile v 25600 slices_S32768x32_o25600_0_S1024x32⟩,
      ⟨S1x32, tile v 26624 slices_S32768x32_o26624_0_S1024x32⟩,
      ⟨S1x32, tile v 27648 slices_S32768x32_o27648_0_S1024x32⟩,
      ⟨S1x32, tile v 28672 slices_S32768x32_o28672_0_S1024x32⟩,
      ⟨S1x32, tile v 29696 slices_S32768x32_o29696_0_S1024x32⟩,
      ⟨S1x32, tile v 30720 slices_S32768x32_o30720_0_S1024x32⟩,
      ⟨S1x32, tile v 31744 slices_S32768x32_o31744_0_S1024x32⟩]
    concatenates_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S1x32_S32x32_d0

/-- The two dense layers with the unit between them. -/
def layers (v187 : FVec F S32x32 .f32) (v188 : FVec F S32x256 .f32) (v190 : Vec F S1x256 .f32)
    (v202 : Vec F S256x40 .f32) (v204 : Vec F S1x40 .f32) : FVec F S32x40 .f32 :=
  have v193 : FVec F S32x256 .f32 := addf
    (matmul dot_S32x32_S32x256_S32x256_1_0_0_1_n_n none v187 v188 (constant S32x256 .f32 0x00000000#32))
    (broadcastTo S32x256 (shapeCast S1x256 v190 shapeCasts_S1x256_S1x256) broadcasts_S1x256_S32x256)
  addf (matmul dot_S32x256_S256x40_S32x40_1_0_0_1_n_n none
      (select (cmpf .ogt v193 (broadcast S32x256 (Scalar.ofBits .f32 0x00000000#32))) v193
        (subf (exp (minimumf v193 (broadcast S32x256 (Scalar.ofBits .f32 0x00000000#32))))
          (broadcast S32x256 (Scalar.ofBits .f32 0x3F800000#32)))) v202 (constant S32x40 .f32 0x00000000#32))
    (broadcastTo S32x40 (shapeCast S1x40 v204 shapeCasts_S1x40_S1x40) broadcasts_S1x40_S32x40)

/-- The largest entry of every row, as a column. -/
def peaks (z : FVec F S32x40 .f32) : FVec F S32x1 .f32 :=
  shapeCast S32x1 (multiReduction .maximumf [1] S32 z 0xFF800000#32 reduces_S32x40_S32 (.inl rfl) rfl) shapeCasts_S32_S32x1

/-- The third call's sum before the softmax, out of its parts. -/
theorem pay36_parts (x0 : Vec F S32768x32 .f32) (x1 x2 : Vec F S1x32 .f32) (x3 : Vec F S32x256 .f32)
    (x4 : Vec F S1x256 .f32) (x5 : Vec F S256x40 .f32) (x6 : Vec F S1x40 .f32) (w3 : Vec F S32x256 .f32)
    (w4 : Vec F S1x256 .f32) (w5 : Vec F S256x40 .f32) (w6 : Vec F S1x40 .f32) :
    k2_pay36 (k2_pay39 x0 x1 x2 x3 x4 x5 x6) (k2_pay40 x0 x1 x2 x3 x4 x5 x6) (k2_pay41 x0 x1 x2 x3 x4 x5 x6) (k2_pay42 x0 x1 x2 x3 x4 x5 x6) (k2_pay43 x0 x1 x2 x3 x4 x5 x6) (k2_pay44 x0 x1 x2 x3 x4 x5 x6) (k2_pay45 x0 x1 x2 x3 x4 x5 x6) (k2_pay46 x0 x1 x2 x3 x4 x5 x6) (k2_pay47 x0 x1 x2 x3 x4 x5 x6) (k2_pay48 x0 x1 x2 x3 x4 x5 x6) (k2_pay49 x0 x1 x2 x3 x4 x5 x6) (k2_pay50 x0 x1 x2 x3 x4 x5 x6) (k2_pay51 x0 x1 x2 x3 x4 x5 x6) (k2_pay52 x0 x1 x2 x3 x4 x5 x6) (k2_pay53 x0 x1 x2 x3 x4 x5 x6) (k2_pay54 x0 x1 x2 x3 x4 x5 x6) (k2_pay55 x0 x1 x2 x3 x4 x5 x6) (k2_pay56 x0 x1 x2 x3 x4 x5 x6) (k2_pay57 x0 x1 x2 x3 x4 x5 x6) (k2_pay58 x0 x1 x2 x3 x4 x5 x6) (k2_pay59 x0 x1 x2 x3 x4 x5 x6) (k2_pay60 x0 x1 x2 x3 x4 x5 x6) (k2_pay61 x0 x1 x2 x3 x4 x5 x6) (k2_pay62 x0 x1 x2 x3 x4 x5 x6) (k2_pay63 x0 x1 x2 x3 x4 x5 x6) (k2_pay64 x0 x1 x2 x3 x4 x5 x6) (k2_pay65 x0 x1 x2 x3 x4 x5 x6) (k2_pay66 x0 x1 x2 x3 x4 x5 x6) (k2_pay67 x0 x1 x2 x3 x4 x5 x6) (k2_pay68 x0 x1 x2 x3 x4 x5 x6) (k2_pay69 x0 x1 x2 x3 x4 x5 x6) w3 w4 w5 w6
      = layers (rows (k2_pay39 x0 x1 x2 x3 x4 x5 x6)) w3 w4 w5 w6
    ∧ k2_pay37 (k2_pay39 x0 x1 x2 x3 x4 x5 x6) (k2_pay40 x0 x1 x2 x3 x4 x5 x6) (k2_pay41 x0 x1 x2 x3 x4 x5 x6) (k2_pay42 x0 x1 x2 x3 x4 x5 x6) (k2_pay43 x0 x1 x2 x3 x4 x5 x6) (k2_pay44 x0 x1 x2 x3 x4 x5 x6) (k2_pay45 x0 x1 x2 x3 x4 x5 x6) (k2_pay46 x0 x1 x2 x3 x4 x5 x6) (k2_pay47 x0 x1 x2 x3 x4 x5 x6) (k2_pay48 x0 x1 x2 x3 x4 x5 x6) (k2_pay49 x0 x1 x2 x3 x4 x5 x6) (k2_pay50 x0 x1 x2 x3 x4 x5 x6) (k2_pay51 x0 x1 x2 x3 x4 x5 x6) (k2_pay52 x0 x1 x2 x3 x4 x5 x6) (k2_pay53 x0 x1 x2 x3 x4 x5 x6) (k2_pay54 x0 x1 x2 x3 x4 x5 x6) (k2_pay55 x0 x1 x2 x3 x4 x5 x6) (k2_pay56 x0 x1 x2 x3 x4 x5 x6) (k2_pay57 x0 x1 x2 x3 x4 x5 x6) (k2_pay58 x0 x1 x2 x3 x4 x5 x6) (k2_pay59 x0 x1 x2 x3 x4 x5 x6) (k2_pay60 x0 x1 x2 x3 x4 x5 x6) (k2_pay61 x0 x1 x2 x3 x4 x5 x6) (k2_pay62 x0 x1 x2 x3 x4 x5 x6) (k2_pay63 x0 x1 x2 x3 x4 x5 x6) (k2_pay64 x0 x1 x2 x3 x4 x5 x6) (k2_pay65 x0 x1 x2 x3 x4 x5 x6) (k2_pay66 x0 x1 x2 x3 x4 x5 x6) (k2_pay67 x0 x1 x2 x3 x4 x5 x6) (k2_pay68 x0 x1 x2 x3 x4 x5 x6) (k2_pay69 x0 x1 x2 x3 x4 x5 x6) w3 w4 w5 w6
      = peaks (layers (rows (k2_pay39 x0 x1 x2 x3 x4 x5 x6)) w3 w4 w5 w6)
    ∧ k2_pay38 (k2_pay39 x0 x1 x2 x3 x4 x5 x6) (k2_pay40 x0 x1 x2 x3 x4 x5 x6) (k2_pay41 x0 x1 x2 x3 x4 x5 x6) (k2_pay42 x0 x1 x2 x3 x4 x5 x6) (k2_pay43 x0 x1 x2 x3 x4 x5 x6) (k2_pay44 x0 x1 x2 x3 x4 x5 x6) (k2_pay45 x0 x1 x2 x3 x4 x5 x6) (k2_pay46 x0 x1 x2 x3 x4 x5 x6) (k2_pay47 x0 x1 x2 x3 x4 x5 x6) (k2_pay48 x0 x1 x2 x3 x4 x5 x6) (k2_pay49 x0 x1 x2 x3 x4 x5 x6) (k2_pay50 x0 x1 x2 x3 x4 x5 x6) (k2_pay51 x0 x1 x2 x3 x4 x5 x6) (k2_pay52 x0 x1 x2 x3 x4 x5 x6) (k2_pay53 x0 x1 x2 x3 x4 x5 x6) (k2_pay54 x0 x1 x2 x3 x4 x5 x6) (k2_pay55 x0 x1 x2 x3 x4 x5 x6) (k2_pay56 x0 x1 x2 x3 x4 x5 x6) (k2_pay57 x0 x1 x2 x3 x4 x5 x6) (k2_pay58 x0 x1 x2 x3 x4 x5 x6) (k2_pay59 x0 x1 x2 x3 x4 x5 x6) (k2_pay60 x0 x1 x2 x3 x4 x5 x6) (k2_pay61 x0 x1 x2 x3 x4 x5 x6) (k2_pay62 x0 x1 x2 x3 x4 x5 x6) (k2_pay63 x0 x1 x2 x3 x4 x5 x6) (k2_pay64 x0 x1 x2 x3 x4 x5 x6) (k2_pay65 x0 x1 x2 x3 x4 x5 x6) (k2_pay66 x0 x1 x2 x3 x4 x5 x6) (k2_pay67 x0 x1 x2 x3 x4 x5 x6) (k2_pay68 x0 x1 x2 x3 x4 x5 x6) (k2_pay69 x0 x1 x2 x3 x4 x5 x6) w3 w4 w5 w6
      = broadcastTo S32x40 (peaks (layers (rows (k2_pay39 x0 x1 x2 x3 x4 x5 x6)) w3 w4 w5 w6)) broadcasts_S32x1_S32x40 :=
  ⟨rfl, rfl, rfl⟩

end

/-- The mean of a sample's rows at an entry. -/
theorem tile_at (v : FVec Ideal S32768x32 .f32) (o : Nat) (h : S32768x32.Slices ![o, 0] S1024x32) (f : Fin 32)
    (ho : o + 1024 ≤ 32768) :
    tile v o h (ix2 0 f) = Ideal.div (∑ p : Fin 1024, v (ix2 ⟨o + p.val, by omega⟩ f)) (Ideal.ofBits .f32 0x44800000#32) := by
  pointwise [tile]

/-- One piece, at a sample's row. -/
theorem tile_row (v : FVec Ideal S32768x32 .f32) (o : Nat) (h : S32768x32.Slices ![o, 0] S1024x32) (s f : Fin 32)
    (i : S1x32.Idx) (h0 : (i 0).val = 0) (h1 : (i 1).val = f.val) (hs : s.val * 1024 = o) :
    tile v o h i = pooled (fun n f => v (ix2 n f)) s f := by
  subst hs
  have e : i = ix2 0 f := by
    funext k
    match k with
    | ⟨0, _⟩ => exact Fin.ext h0
    | ⟨1, _⟩ => exact Fin.ext h1
  rw [e, tile_at v _ h f (by omega)]
  rfl

/-- Every sample's mean. -/
theorem rows_at (v : FVec Ideal S32768x32 .f32) (s f : Fin 32) :
    rows v (ix2 s f) = pooled (fun n f => v (ix2 n f)) s f := by
  unfold rows
  concat_tiles i h
  all_goals exact tile_row v _ _ s f i h0 h1 (by have h' := h; change s.val = _ at h'; omega)

/-- The layers at an entry. -/
theorem layers_at (M : FVec Ideal S32x32 .f32) (W1 : FVec Ideal S32x256 .f32) (b1 : Vec Ideal S1x256 .f32)
    (W2 : Vec Ideal S256x40 .f32) (b2 : Vec Ideal S1x40 .f32) (s : Fin 32) (k : Fin 40) :
    layers M W1 b1 W2 b2 (ix2 s k) = dense (fun s j => elu (dense (fun s f => M (ix2 s f)) (fun i j => W1 (ix2 i j))
      (fun j => b1 (ix2 0 j)) s j)) (fun j k => W2 (ix2 j k)) (fun k => b2 (ix2 0 k)) s k := by
  pointwise [layers]
  rfl

/-- The logarithm of the softmax at an entry. -/
theorem softmax_at (z : FVec Ideal S32x40 .f32) (s : Fin 32) (k : Fin 40) :
    k2_pay1 z (peaks z) (broadcastTo S32x40 (peaks z) broadcasts_S32x1_S32x40) (ix2 s k)
      = logSoftmax (fun k => z (ix2 s k)) k := by
  pointwise [k2_pay1, peaks]
  rfl

/-- The activation at an entry. -/
theorem activation_at (Y : Vec Ideal S32768x32 .f32) (g b : Vec Ideal S1x32 .f32) (n : Fin 32768) (f : Fin 32) :
    (k2_pay2 (F := Ideal) Y g b : FVec Ideal S32768x32 .f32) (ix2 n f) = activation (fun n f => Y (ix2 n f)) (fun f => g (ix2 0 f)) (fun f => b (ix2 0 f)) n f := by
  pointwise [k2_pay2]
  rfl

/-- The third call's result. -/
theorem out2_7_at (x0 : Vec Ideal S32768x32 .f32) (x1 x2 : Vec Ideal S1x32 .f32) (x3 : Vec Ideal S32x256 .f32)
    (x4 : Vec Ideal S1x256 .f32) (x5 : Vec Ideal S256x40 .f32) (x6 : Vec Ideal S1x40 .f32) (s : Fin 32) (k : Fin 40) :
    out2_7 x0 x1 x2 x3 x4 x5 x6 (ix2 s k)
      = headOf (fun n f => x0 (ix2 n f)) (fun f => x1 (ix2 0 f)) (fun f => x2 (ix2 0 f)) (fun i j => x3 (ix2 i j))
          (fun j => x4 (ix2 0 j)) (fun i j => x5 (ix2 i j)) (fun j => x6 (ix2 0 j)) s k := by
  obtain ⟨h36, h37, h38⟩ := pay36_parts x0 x1 x2 x3 x4 x5 x6 x3 x4 x5 x6
  have hA : ∀ n f, (k2_pay39 x0 x1 x2 x3 x4 x5 x6 : FVec Ideal S32768x32 .f32) (ix2 n f)
      = activation (fun n f => x0 (ix2 n f)) (fun f => x1 (ix2 0 f)) (fun f => x2 (ix2 0 f)) n f := by
    intro n f
    unfold k2_pay39
    rw [activation_at]
    pointwise
  unfold out2_7
  frame_out
  rw [h36, h37, h38]
  refine (softmax_at _ s k).trans ?_
  unfold headOf
  refine congrArg (fun z => logSoftmax z k) (funext fun k => ?_)
  rw [layers_at]
  simp only [rows_at, hA]

end Cert.KernelIdeal.Knn
-- ==== Proof.TopK.lean ====
module

public import proofs.«01_k».proof.Proof.Select
public import Idealize.ShloMosaic.Lib.Pipeline.ValueKit

/-!
What a top-k of the negated distances returns: the positions in the first places of the order by distance.
-/

@[expose] public section

noncomputable section

open Idealize.ShloMosaic

namespace Cert.Knn

/-- Greater, among negated entries, is smaller among the entries. -/
theorem gt_neg (a b : Ideal .f32) :
    (FloatOps.cmpfTotal (F := Ideal) .gt a b == 1#1) = decide ((-a : EReal) < -b) := by
  show (BitVec.ofBool (decide (b < a)) == 1#1) = _
  have : ((-a : EReal) < -b) ↔ (b : EReal) < a := EReal.neg_lt_neg_iff
  by_cases h : (b : EReal) < a
  · rw [decide_eq_true h, decide_eq_true (this.mpr h)]; rfl
  · rw [decide_eq_false h, decide_eq_false (fun e => h (this.mp e))]; rfl

/-- The value and the position a top-k returns in place `k`. -/
theorem topK_at {N n K : Nat} (x : FVec Ideal ⟨3, ![N, n, n]⟩ .f32) (hK : K ≤ n)
    (h : Shape.Slices ⟨3, ![N, n, n]⟩ (fun _ => 0) ⟨3, ![N, n, K]⟩) (b : Fin N) (p : Fin n) (k : Fin K) :
    (Host.topK ⟨3, ![N, n, K]⟩ 2 (FloatOps.cmpfTotal .gt) x h).1 (ix3 b p k)
        = x (ix3 b p (nth (fun q => -x (ix3 b p q)) (k.castLE hK)))
      ∧ (Host.topK ⟨3, ![N, n, K]⟩ 2 (FloatOps.cmpfTotal .gt) x h).2 (ix3 b p k)
        = BitVec.ofNat 32 (nth (fun q => -x (ix3 b p q)) (k.castLE hK)).val := by
  have hs : ∀ j : Fin n, nth (fun q => -x (ix3 b p q)) j =
      sortedFrom (fun k k' => FloatOps.cmpfTotal (F := Ideal) .gt (x (ix3 b p k)) (x (ix3 b p k')) == 1#1) j := by
    intro j
    rw [← sortedFrom_weak]
    simp only [gt_neg]
  rw [hs]
  -- the sorted index the slice reads at `(b, p, k)`, moved along the last axis
  have e : ∀ (j : Shape.Idx ⟨3, ![N, n, n]⟩) (q : Fin n), (j 0).val = b.val → (j 1).val = p.val →
      Shape.Idx.along j (2 : Fin 3) q = ix3 b p q := by
    intro j q h0 h1
    funext a
    match a with
    | ⟨0, _⟩ => exact Fin.ext h0
    | ⟨1, _⟩ => exact Fin.ext h1
    | ⟨2, _⟩ => rfl
  have h0 : 0 + b.val = b.val := Nat.zero_add _
  have h1 : 0 + p.val = p.val := Nat.zero_add _
  have h2 : (⟨0 + k.val, by omega⟩ : Fin n) = k.castLE hK := Fin.ext (Nat.zero_add _)
  rw [← h2]
  have key : ∀ j : Shape.Idx ⟨3, ![N, n, n]⟩, (j 0).val = b.val → (j 1).val = p.val →
      (sortedFrom (fun k k' => FloatOps.cmpfTotal (F := Ideal) .gt
        (x (Shape.Idx.along j (2 : Fin 3) k)) (x (Shape.Idx.along j (2 : Fin 3) k')) == 1#1))
      = sortedFrom (fun k k' => FloatOps.cmpfTotal (F := Ideal) .gt (x (ix3 b p k)) (x (ix3 b p k')) == 1#1) := by
    intro j h0 h1
    exact congrArg (fun g : Fin n → Shape.Idx ⟨3, ![N, n, n]⟩ => sortedFrom (fun k k' =>
      FloatOps.cmpfTotal (F := Ideal) .gt (x (g k)) (x (g k')) == 1#1)) (funext fun q => e j q h0 h1)
  constructor
  · refine (congrArg x (e _ _ h0 h1)).trans ?_
    exact congrArg (fun f : Fin n → Fin n => x (ix3 b p (f ⟨0 + k.val, by omega⟩))) (key _ h0 h1)
  · exact congrArg (fun f : Fin n → Fin n => BitVec.ofNat 32 (f ⟨0 + k.val, by omega⟩).val) (key _ h0 h1)

end Cert.Knn
-- ==== Proof.Gather.lean ====
module

public import proofs.«01_k».proof.Proof.Gen.ReferenceIdeal.Run
public import Idealize.ShloMosaic.Lib.Pipeline.ValueKit
public import Idealize.ShloMosaic.Lib.Routing.Ops

/-!
The reference's two gathers, read at an index.
-/

@[expose] public section

set_option maxRecDepth 16384

noncomputable section

open Idealize.ShloMosaic Cert.ReferenceIdeal Cert.ReferenceIdeal.Gen

namespace Cert.Knn

/-- The gather of points: where the start indices hold a sample and a position, the result is that point. -/
theorem gather_points {α : Type} (x : S32x1024x3.Idx → α) (idx : IVec S32x1024x20x2 32)
    (b : Fin 32) (p : Fin 1024) (k : Fin 20) (c : Fin 3) (q : Fin 1024)
    (h0 : idx (ix4 b p k 0) = BitVec.ofNat 32 b.val) (h1 : idx (ix4 b p k 1) = BitVec.ofNat 32 q.val) :
    Host.gather gather_S32x1024x3_S32x1024x20x2_S32x1024x20x3_3_01_n_n_01_3_113 x idx (ix4 b p k c)
      = x (ix3 b q c) := by
  have toNat_word : ∀ m : Nat, m < 1024 → (BitVec.ofNat 32 m).toInt.toNat = m := fun m hm => by
    rw [BitVec.toInt_eq_toNat_of_lt] <;> simp only [BitVec.toNat_ofNat] <;> omega
  unfold Host.gather
  refine congrArg x (funext fun a => Fin.ext ?_)
  match a with
  | ⟨0, _⟩ =>
    show min (idx _).toInt.toNat (32 - 1) + 0 + 0 = b.val
    rw [show (idx _) = idx (ix4 b p k 0) from congrArg idx (by
      funext a
      match a with
      | ⟨0, _⟩ => rfl
      | ⟨1, _⟩ => rfl
      | ⟨2, _⟩ => rfl
      | ⟨3, _⟩ => rfl), h0, toNat_word _ (by omega)]
    omega
  | ⟨1, _⟩ =>
    show min (idx _).toInt.toNat (1024 - 1) + 0 + 0 = q.val
    rw [show (idx _) = idx (ix4 b p k 1) from congrArg idx (by
      funext a
      match a with
      | ⟨0, _⟩ => rfl
      | ⟨1, _⟩ => rfl
      | ⟨2, _⟩ => rfl
      | ⟨3, _⟩ => rfl), h1, toNat_word _ (by omega)]
    omega
  | ⟨2, _⟩ =>
    show 0 + 0 + c.val = c.val
    omega

end Cert.Knn
-- ==== Proof.RefAt.lean ====
module

public import proofs.«01_k».proof.Proof.Model
public import proofs.«01_k».proof.Proof.TopK
public import proofs.«01_k».proof.Proof.Gather
public import Idealize.ShloMosaic.Lib.Tactic.CleanTypes

/-!
The reference's values, read at an index, up to the output of the spline convolution.
-/

@[expose] public section

set_option maxRecDepth 16384

noncomputable section

open Idealize.ShloMosaic Idealize.ShloMosaic.TcCoe Idealize.SL.Sem
open Cert.ReferenceIdeal Cert.ReferenceIdeal.Gen Cert.Knn

namespace Cert.ReferenceIdeal.Value

variable (L : Valuation τ sig (Elt Ideal))

/-- The sample a row belongs to. -/
abbrev smp (n : Fin 32768) : Fin 32 := ⟨n.val / 1024, by omega⟩
/-- A row's place within its sample. -/
abbrev plc (n : Fin 32768) : Fin 1024 := ⟨n.val % 1024, by omega⟩

/-- The points of a sample. -/
def pts (b : Fin 32) : Fin 1024 → Fin 3 → EReal :=
  fun p c => (res_main_v0 L : FVec Ideal S32x1024x3 .f32) (ix3 b p c)

/-- The frame given for a row. -/
def frm (n : Fin 32768) : Fin 3 → Fin 3 → EReal :=
  fun c e => (L (Proc.devRef .tc main_arg1) : FVec Ideal S32768x3x3 .f32) (ix3 n c e)

/-- The reference's negated distances. -/
theorem v23_at (b : Fin 32) (p q : Fin 1024) :
    (res_main_v23 L : FVec Ideal S32x1024x1024 .f32) (ix3 b p q) = -sqd (pts L b) p q := by
  have e : (FloatOps.uitofp (F := Ideal) .f32 (IntOp.cmpi .eq (IntOp.addi (BitVec.ofNat 32 p.val) 0#32)
      (BitVec.ofNat 32 q.val)) : EReal) * big = if p = q then big else 0 := by
    have h : IntOp.cmpi .eq (IntOp.addi (BitVec.ofNat 32 p.val) 0#32) (BitVec.ofNat 32 q.val)
        = BitVec.ofBool (decide (p = q)) := by
      have : IntOp.addi (BitVec.ofNat 32 p.val) 0#32 = BitVec.ofNat 32 p.val := BitVec.add_zero _
      rw [this]
      show BitVec.ofBool (BitVec.ofNat 32 p.val == BitVec.ofNat 32 q.val) = _
      congr 1
      rw [Bool.eq_iff_iff, beq_iff_eq, decide_eq_true_iff]
      constructor
      · intro h
        have := congrArg BitVec.toNat h
        simp only [BitVec.toNat_ofNat] at this
        exact Fin.ext (by omega)
      · rintro rfl
        rfl
    rw [h]
    by_cases hpq : p = q
    · rw [if_pos hpq, decide_eq_true hpq]
      show (((BitVec.ofBool true).toNat : ℝ) : EReal) * big = big
      simp
    · rw [if_neg hpq, decide_eq_false hpq]
      show (((BitVec.ofBool false).toNat : ℝ) : EReal) * big = 0
      simp
  unfold sqd pts
  rw [← e]
  unfold res_main_v23 res_main_v2
  generalize res_main_v0 L = x
  clean_types
  pointwise

/-- The neighbour the reference's top-k names. -/
theorem indices_at (b : Fin 32) (p : Fin 1024) (k : Fin 20) :
    (res_main_indices L : IVec S32x1024x20 32) (ix3 b p k)
      = BitVec.ofNat 32 (nbr (pts L b) p (k.castLE (by decide))).val := by
  obtain ⟨x, hx⟩ : ∃ x : FVec Ideal S32x1024x1024 .f32, x = res_main_v23 L := ⟨_, rfl⟩
  have h := (topK_at x (by decide) sliceFits_S32x1024x1024_S32x1024x20 b p k).2
  have hd : ∀ q, x (ix3 b p q) = -sqd (pts L b) p q := fun q => by rw [hx]; exact v23_at L b p q
  unfold res_main_indices
  rw [← hx]
  refine h.trans ?_
  have : (fun q => -x (ix3 b p q)) = sqd (pts L b) p := by
    funext q
    rw [hd, neg_neg]
  rw [this]
  rfl

/-- A word that is not negative is left as it is by the wrap of an index. -/
theorem wrap_ofNat (m k : Nat) (hm : m < 2 ^ 31) :
    Scalar.select (IntOp.cmpi .slt (BitVec.ofNat 32 m) 0#32) (IntOp.addi (BitVec.ofNat 32 m) (BitVec.ofNat 32 k))
      (BitVec.ofNat 32 m) = BitVec.ofNat 32 m := by
  have h : IntOp.cmpi .slt (BitVec.ofNat 32 m) 0#32 = 0#1 := by
    show BitVec.ofBool ((BitVec.ofNat 32 m).slt 0#32) = 0#1
    have : (BitVec.ofNat 32 m).slt 0#32 = false := by
      have h0 : (0#32 : BitVec 32).toInt = 0 := by decide
      simp only [BitVec.slt, decide_eq_false_iff_not, not_lt, h0]
      rw [BitVec.toInt_eq_toNat_of_lt (by simp only [BitVec.toNat_ofNat]; omega)]
      omega
    rw [this]
    rfl
  rw [h]
  rfl

/-- The reference's offsets. -/
theorem v44_at (n : Fin 32768) (k : Fin 20) (c : Fin 3) :
    (res_main_v44 L : FVec Ideal S32768x20x3 .f32) (ix3 n k c)
      = offset (pts L (smp n)) (plc n) (k.castLE (by decide)) c := by
  have hi := indices_at L (smp n) (plc n) k
  unfold offset pts
  have h25 : ∀ b : Fin 32, (res_main_v25 L : IVec S32x1x1 32) (ix3 b 0 0) = BitVec.ofNat 32 b.val := by
    intro b
    unfold res_main_v25
    clean_types
    pointwise
  unfold res_main_v44
  generalize hq : nbr (pts L (smp n)) (plc n) (k.castLE (by decide)) = q at hi ⊢
  unfold pts at hq
  rw [hq]
  clear hq
  revert hi h25
  generalize res_main_v25 L = w
  generalize res_main_indices L = i
  generalize res_main_v0 L = x
  intro h25 hi
  clean_types
  have hg := gather_points x (concatenate S32x1024x20x2 3
          [⟨S32x1024x20x1,
              broadcastInDim S32x1024x20x1 ![0, 1, 2] bcast_S32x1024x20_S32x1024x20x1_0_1_2
                (broadcastInDim S32x1024x20 ![0, 1, 2] bcast_S32x1x1_S32x1024x20_0_1_2
                  (select
                    (cmpi CmpIPredicate.slt w
                      (broadcastInDim S32x1x1 ![] bcast_S_S32x1x1 (constantI S_ 32 0#32)))
                    (addi w (broadcastInDim S32x1x1 ![] bcast_S_S32x1x1 (constantI S_ 32 32#32)))
                    w))⟩,
            ⟨S32x1024x20x1,
              broadcastInDim S32x1024x20x1 ![0, 1, 2] bcast_S32x1024x20_S32x1024x20x1_0_1_2
                (select
                  (cmpi CmpIPredicate.slt i
                    (broadcastInDim S32x1024x20 ![] bcast_S_S32x1024x20 (constantI S_ 32 0#32)))
                  (addi i
                    (broadcastInDim S32x1024x20 ![] bcast_S_S32x1024x20 (constantI S_ 32 1024#32)))
                  i)⟩]
          concatenates_S32x1024x20x1_S32x1024x20x1_S32x1024x20x2_d3) (smp n) (plc n) k c q ?_ ?_
  · pointwise
    rw [hg]
  · have := wrap_ofNat (smp n).val 32 (by omega)
    rw [← h25] at this
    refine Eq.trans ?_ (this.trans (h25 _))
    pointwise
  · have := wrap_ofNat q.val 1024 (by omega)
    rw [← hi] at this
    refine Eq.trans ?_ (this.trans hi)
    pointwise

/-- The reference's covariances. -/
theorem cov_at (n : Fin 32768) (e : Fin 9) (x : FVec Ideal S32768x10x3 .f32) (hx : x = res_main_v45 L) :
    (shapeCast S32x1024x9 (Host.dotGeneral dot_S32768x10x3_S32768x10x3_S32768x3x3_1_1_2_2_0_0 (F := Ideal) (φ₁ := .f32)
        (φ₂ := .f32) none x x) shapeCasts_S32768x3x3_S32x1024x9 : FVec Ideal S32x1024x9 .f32)
        (ix3 (smp n) (plc n) e)
      = ∑ k : Fin 10, offset (pts L (smp n)) (plc n) (k.castLE (by decide)) ⟨e.val / 3, by omega⟩
          * offset (pts L (smp n)) (plc n) (k.castLE (by decide)) ⟨e.val % 3, by omega⟩ := by
  have h : ∀ (k : Fin 10) (c : Fin 3), x (ix3 n k c) = offset (pts L (smp n)) (plc n) (k.castLE (by decide)) c := by
    intro k c
    have := v44_at L n (k.castLE (by decide)) c
    rw [hx]
    refine Eq.trans ?_ this
    unfold res_main_v45
    generalize res_main_v44 L = y
    clean_types
    pointwise
    rfl
  simp only [← h]
  clear h hx
  pointwise
  have : (⟨n.val / 1024 * 1024 + n.val % 1024, by omega⟩ : Fin 32768) = n :=
    Fin.ext (by show n.val / 1024 * 1024 + n.val % 1024 = n.val; omega)
  rw [this]

/-- The projections of the offsets on the frame. -/
theorem v47_at (n : Fin 32768) (k : Fin 20) (e : Fin 3) :
    (res_main_v47 L : FVec Ideal S32768x20x3 .f32) (ix3 n k e)
      = ∑ c, offset (pts L (smp n)) (plc n) (k.castLE (by decide)) c * frm L n c e := by
  simp only [← v44_at]
  unfold res_main_v47 frm
  generalize res_main_v44 L = x
  generalize L (Proc.devRef .tc main_arg1) = v
  clean_types
  pointwise

/-- The projections with the third one's sign fixed. -/
theorem v57_at (n : Fin 32768) (k : Fin 20) (e : Fin 3) (x : FVec Ideal S32768x20x3 .f32) (hx : x = res_main_v47 L) :
    (res_main_v57 L : FVec Ideal S32768x20x3 .f32) (ix3 n k e)
      = if e.val < 2 then x (ix3 n k e) else x (ix3 n k 2) * Ideal.sign (∑ j, x (ix3 n j 2)) := by
  unfold res_main_v57
  rw [← hx]
  clear hx
  clean_types
  refine Eq.trans (b := if h : e.val < 2 then x (ix3 n k e)
      else x (ix3 n k ⟨2 + (e.val - 2), by omega⟩) * Ideal.sign (∑ j, x (ix3 n j 2))) ?_ ?_
  · pointwise
  · split
    · rfl
    · have : (⟨2 + (e.val - 2), by omega⟩ : Fin 3) = 2 := Fin.ext (by show 2 + (e.val - 2) = 2; omega)
      rw [this]

/-- The largest entry of a row of the reference, over its neighbours and columns. -/
theorem fold_at (n : Fin 32768) (x : FVec Ideal S32768x20x3 .f32) :
    (Host.reduce (FloatOps.maximumf (F := Ideal) (φ := .f32)) x (constant S_ .f32 0xFF800000#32) reducesTo_S32768x20x3_S32768_d1_2 h_S_) (ix1 n)
      = Finset.fold max (Ideal.ofBits .f32 4286578688#32)
          (fun y : Fin 20 × Fin 3 => x (ix3 n y.1 y.2)) Finset.univ := by
  pointwise

/-- The position in the spline's grid, before the largest entry is read. -/
theorem place_at (n : Fin 32768) (e : Fin 3) (x : FVec Ideal S32768x20x3 .f32) (m : FVec Ideal S32768 .f32) :
    (mulf (shapeCast S32768x3 (extractStridedSlice S32768x1x3 ![0, 0, 0] (addf (mulf (Host.divf x (broadcastInDim S32768x20x3 ![0, 1, 2] bcast_S32768x1x1_S32768x20x3_0_1_2 (broadcastInDim S32768x1x1 ![0] bcast_S32768_S32768x1x1_0 m))) (broadcastInDim S32768x20x3 ![] bcast_S_S32768x20x3 (constant S_ .f32 0x3F000000#32))) (broadcastInDim S32768x20x3 ![] bcast_S_S32768x20x3 (constant S_ .f32 0x3F000000#32))) slices_S32768x20x3_S32768x1x3_0_0_0) shapeCasts_S32768x1x3_S32768x3) (broadcastInDim S32768x3 ![] bcast_S_S32768x3 (constant S_ .f32 0x40800000#32)) : FVec Ideal S32768x3 .f32) (ix2 n e)
      = (Ideal.div (x (ix3 n 0 e)) (m (ix1 n)) * half + half) * four := by
  pointwise

/-- The position of the nearest neighbour in the spline's grid. -/
theorem v70_at (n : Fin 32768) (e : Fin 3) (x : FVec Ideal S32768x20x3 .f32) (hx : x = res_main_v57 L) :
    (res_main_v70 L : FVec Ideal S32768x3 .f32) (ix2 n e)
      = (Ideal.div (x (ix3 n 0 e)) (Finset.fold max (Ideal.ofBits .f32 4286578688#32)
          (fun y : Fin 20 × Fin 3 => FloatOps.absf (F := Ideal) (φ := .f32) (x (ix3 n y.1 y.2))) Finset.univ)
          * half + half) * four := by
  unfold res_main_v70
  rw [← hx]
  refine (place_at n e x _).trans ?_
  rw [fold_at]
  rfl

/-- The factors and the coordinates of the corners, in terms of that position. -/
theorem v72_at (n : Fin 32768) (e : Fin 3) (x : FVec Ideal S32768x3 .f32) (hx : x = res_main_v70 L) :
    (res_main_v72 L : FVec Ideal S32768x3 .f32) (ix2 n e)
      = x (ix2 n e) - Ideal.liftRound Int.floor (x (ix2 n e)) := by
  unfold res_main_v72 res_main_v71
  rw [← hx]
  clear hx
  clean_types
  pointwise

/-- The factor of the lower corner. -/
theorem v75_at (n : Fin 32768) (e : Fin 3) (x : FVec Ideal S32768x3 .f32) (hx : x = res_main_v72 L) :
    (res_main_v75 L : FVec Ideal S32768x3 .f32) (ix2 n e) = Ideal.ofBits .f32 1065353216#32 - x (ix2 n e) := by
  unfold res_main_v75
  rw [← hx]
  clear hx
  clean_types
  pointwise

/-- The cell number of the lower corner. -/
theorem v73_at (n : Fin 32768) (e : Fin 3) (x : FVec Ideal S32768x3 .f32) (hx : x = res_main_v70 L) :
    (res_main_v73 L : IVec S32768x3 32) (ix2 n e)
      = FloatOps.fptosi (F := Ideal) (φ := .f32) 32 (Ideal.liftRound Int.floor (x (ix2 n e))) := by
  unfold res_main_v73 res_main_v71
  rw [← hx]
  clear hx
  clean_types
  pointwise

/-- The lower coordinate, kept in range. -/
theorem v76_at (n : Fin 32768) (e : Fin 3) (x : IVec S32768x3 32) (hx : x = res_main_v73 L) :
    (res_main_v76 L : IVec S32768x3 32) (ix2 n e) = clip (x (ix2 n e)) := by
  unfold res_main_v76
  rw [← hx]
  clear hx
  clean_types
  rfl

/-- The upper coordinate, kept in range. -/
theorem v79_at (n : Fin 32768) (e : Fin 3) (x : IVec S32768x3 32) (hx : x = res_main_v73 L) :
    (res_main_v79 L : IVec S32768x3 32) (ix2 n e) = clip (x (ix2 n e) + 1#32) := by
  unfold res_main_v79
  rw [← hx]
  clear hx
  clean_types
  rfl

/-- One row of the weight table, taken by a word that names a cell. -/
theorem table_at (x : FVec Ideal S125x32 .f32) (w : IVec S32768 32) (n : Fin 32768) (f : Fin 32) (a b c : BitVec 32)
    (hw : w (ix1 n) = cellWord (clip a) (clip b) (clip c)) :
    Host.gather gather_S125x32_S32768x1_S32768x32_1_0_n_n_0_1_132 x
        (broadcastInDim S32768x1 ![0] bcast_S32768_S32768x1_0
          (select (cmpi .slt w (broadcastInDim S32768 ![] bcast_S_S32768 (constantI S_ 32 0#32)))
            (addi w (broadcastInDim S32768 ![] bcast_S_S32768 (constantI S_ 32 125#32))) w)) (ix2 n f)
      = x (ix2 (cellRow (w (ix1 n))) f) := by
  refine Routing.gather_row (nb := 125) (B := 32) (n := 32768) gather_S125x32_S32768x1_S32768x32_1_0_n_n_0_1_132 rfl rfl rfl
    rfl rfl x _ n f _ ?_ (by decide)
  have h := wrap_ofNat (cellRow (w (ix1 n))).val 125 (by omega)
  rw [show BitVec.ofNat 32 (cellRow (w (ix1 n))).val = w (ix1 n) by rw [hw]; exact (cellWord_row a b c).symm] at h
  rw [show BitVec.ofNat 32 (cellRow (w (ix1 n))).val = w (ix1 n) by rw [hw]; exact (cellWord_row a b c).symm]
  refine Eq.trans ?_ h
  pointwise

/-- The word of a cell, put together from three columns. -/
theorem word_at (a b c : IVec S32768x3 32) (n : Fin 32768) :
    (addi (addi (shapeCast S32768 (extractStridedSlice S32768x1 ![0, 0] a slices_S32768x3_S32768x1_0_0) shapeCasts_S32768x1_S32768) (muli (shapeCast S32768 (extractStridedSlice S32768x1 ![0, 1] b slices_S32768x3_S32768x1_0_1) shapeCasts_S32768x1_S32768) (broadcastInDim S32768 ![] bcast_S_S32768 (constantI S_ 32 5#32)))) (muli (shapeCast S32768 (extractStridedSlice S32768x1 ![0, 2] c slices_S32768x3_S32768x1_0_2) shapeCasts_S32768x1_S32768) (broadcastInDim S32768 ![] bcast_S_S32768 (constantI S_ 32 25#32)))) (ix1 n)
      = cellWord (a (ix2 n 0)) (b (ix2 n 1)) (c (ix2 n 2)) := by
  unfold cellWord
  change _ = IntOp.addi (IntOp.addi (a (ix2 n 0)) (IntOp.muli (b (ix2 n 1)) 5#32)) (IntOp.muli (c (ix2 n 2)) 25#32)
  pointwise

/-- One corner's share: the product of its factors times its row of the table. -/
theorem corner_at (a b c : FVec Ideal S32768x3 .f32) (x : FVec Ideal S125x32 .f32) (w : IVec S32768 32)
    (n : Fin 32768) (f : Fin 32) (p q r : BitVec 32) (hw : w (ix1 n) = cellWord (clip p) (clip q) (clip r)) :
    (mulf (broadcastInDim S32768x32 ![0, 1] bcast_S32768x1_S32768x32_0_1 (broadcastInDim S32768x1 ![0] bcast_S32768_S32768x1_0 (mulf (mulf (shapeCast S32768 (extractStridedSlice S32768x1 ![0, 0] a slices_S32768x3_S32768x1_0_0) shapeCasts_S32768x1_S32768) (shapeCast S32768 (extractStridedSlice S32768x1 ![0, 1] b slices_S32768x3_S32768x1_0_1) shapeCasts_S32768x1_S32768)) (shapeCast S32768 (extractStridedSlice S32768x1 ![0, 2] c slices_S32768x3_S32768x1_0_2) shapeCasts_S32768x1_S32768)))) (Host.gather gather_S125x32_S32768x1_S32768x32_1_0_n_n_0_1_132 x
        (broadcastInDim S32768x1 ![0] bcast_S32768_S32768x1_0
          (select (cmpi .slt w (broadcastInDim S32768 ![] bcast_S_S32768 (constantI S_ 32 0#32)))
            (addi w (broadcastInDim S32768 ![] bcast_S_S32768 (constantI S_ 32 125#32))) w))) : FVec Ideal S32768x32 .f32) (ix2 n f)
      = a (ix2 n 0) * b (ix2 n 1) * c (ix2 n 2) * x (ix2 (cellRow (w (ix1 n))) f) := by
  rw [← table_at x w n f p q r hw]
  generalize Host.gather gather_S125x32_S32768x1_S32768x32_1_0_n_n_0_1_132 x _ = y
  pointwise

/-- The convolution's output: the eight corners' shares, the root and the bias. -/
theorem v336_at (n : Fin 32768) (f : Fin 32) :
    (res_main_v336 L : FVec Ideal S32768x32 .f32) (ix2 n f) =
      spline (fun e => (res_main_v75 L : FVec Ideal S32768x3 .f32) (ix2 n e))
        (fun e => (res_main_v72 L : FVec Ideal S32768x3 .f32) (ix2 n e))
        (fun e => (res_main_v76 L : IVec S32768x3 32) (ix2 n e))
        (fun e => (res_main_v79 L : IVec S32768x3 32) (ix2 n e))
        (fun j => (res_main_v80 L : FVec Ideal S125x32 .f32) (ix2 j f))
      + (L (Proc.devRef .tc main_arg3) : FVec Ideal S1x32 .f32) (ix2 0 f)
      + (L (Proc.devRef .tc main_arg4) : FVec Ideal S32 .f32) (ix1 f) := by
  have h76 : ∃ k : Fin 3 → BitVec 32, ∀ e, (res_main_v76 L : IVec S32768x3 32) (ix2 n e) = clip (k e) :=
    ⟨_, fun e => v76_at L n e _ rfl⟩
  have h79 : ∃ k : Fin 3 → BitVec 32, ∀ e, (res_main_v79 L : IVec S32768x3 32) (ix2 n e) = clip (k e) :=
    ⟨_, fun e => v79_at L n e _ rfl⟩
  have w101 : (res_main_v101 L : IVec S32768 32) (ix1 n) = _ := word_at (res_main_v76 L) (res_main_v76 L) (res_main_v76 L) n
  have w132 : (res_main_v132 L : IVec S32768 32) (ix1 n) = _ := word_at (res_main_v76 L) (res_main_v76 L) (res_main_v79 L) n
  have w163 : (res_main_v163 L : IVec S32768 32) (ix1 n) = _ := word_at (res_main_v76 L) (res_main_v79 L) (res_main_v76 L) n
  have w194 : (res_main_v194 L : IVec S32768 32) (ix1 n) = _ := word_at (res_main_v76 L) (res_main_v79 L) (res_main_v79 L) n
  have w225 : (res_main_v225 L : IVec S32768 32) (ix1 n) = _ := word_at (res_main_v79 L) (res_main_v76 L) (res_main_v76 L) n
  have w256 : (res_main_v256 L : IVec S32768 32) (ix1 n) = _ := word_at (res_main_v79 L) (res_main_v76 L) (res_main_v79 L) n
  have w287 : (res_main_v287 L : IVec S32768 32) (ix1 n) = _ := word_at (res_main_v79 L) (res_main_v79 L) (res_main_v76 L) n
  have w318 : (res_main_v318 L : IVec S32768 32) (ix1 n) = _ := word_at (res_main_v79 L) (res_main_v79 L) (res_main_v79 L) n
  unfold res_main_v336 res_main_v236
  revert h76 h79 w101 w132 w163 w194 w225 w256 w287 w318
  generalize res_main_v72 L = v72
  generalize res_main_v75 L = v75
  generalize res_main_v76 L = v76
  generalize res_main_v79 L = v79
  generalize res_main_v80 L = v80
  generalize res_main_v101 L = v101
  generalize res_main_v132 L = v132
  generalize res_main_v163 L = v163
  generalize res_main_v194 L = v194
  generalize res_main_v225 L = v225
  generalize res_main_v256 L = v256
  generalize res_main_v287 L = v287
  generalize res_main_v318 L = v318
  generalize L (Proc.devRef .tc main_arg3) = r
  generalize L (Proc.devRef .tc main_arg4) = d
  clean_types
  rintro ⟨k, h76⟩ ⟨m, h79⟩ w101 w132 w163 w194 w225 w256 w287 w318
  have add : ∀ (x y : FVec Ideal S32768x32 .f32) (i : S32768x32.Idx), addf x y i = (x i + y i : EReal) := fun _ _ _ => rfl
  have c0 : (broadcastInDim S32768x32 ![] bcast_S_S32768x32 (constant S_ .f32 0x00000000#32) : FVec Ideal S32768x32 .f32) (ix2 n f)
      = (0 : EReal) := by
    pointwise
  have cr : (broadcastInDim S32768x32 ![0, 1] bcast_S1x32_S32768x32_0_1 (broadcastInDim S1x32 ![1] bcast_S32_S1x32_1 (shapeCast S32 r shapeCasts_S1x32_S32)) : FVec Ideal S32768x32 .f32) (ix2 n f)
      = r (ix2 0 f) := by
    pointwise
  have cd : (broadcastInDim S32768x32 ![0, 1] bcast_S1x32_S32768x32_0_1 (broadcastInDim S1x32 ![1] bcast_S32_S1x32_1 d) : FVec Ideal S32768x32 .f32) (ix2 n f)
      = d (ix1 f) := by
    pointwise
  have k101 : v101 (ix1 n) = cellWord (clip (k 0)) (clip (k 1)) (clip (k 2)) := by rw [w101, h76, h76, h76]
  have k132 : v132 (ix1 n) = cellWord (clip (k 0)) (clip (k 1)) (clip (m 2)) := by rw [w132, h76, h76, h79]
  have k163 : v163 (ix1 n) = cellWord (clip (k 0)) (clip (m 1)) (clip (k 2)) := by rw [w163, h76, h79, h76]
  have k194 : v194 (ix1 n) = cellWord (clip (k 0)) (clip (m 1)) (clip (m 2)) := by rw [w194, h76, h79, h79]
  have k225 : v225 (ix1 n) = cellWord (clip (m 0)) (clip (k 1)) (clip (k 2)) := by rw [w225, h79, h76, h76]
  have k256 : v256 (ix1 n) = cellWord (clip (m 0)) (clip (k 1)) (clip (m 2)) := by rw [w256, h79, h76, h79]
  have k287 : v287 (ix1 n) = cellWord (clip (m 0)) (clip (m 1)) (clip (k 2)) := by rw [w287, h79, h79, h76]
  have k318 : v318 (ix1 n) = cellWord (clip (m 0)) (clip (m 1)) (clip (m 2)) := by rw [w318, h79, h79, h79]
  simp only [add]
  rw [corner_at _ _ _ _ _ n f _ _ _ k101]
  rw [corner_at _ _ _ _ _ n f _ _ _ k132]
  rw [corner_at _ _ _ _ _ n f _ _ _ k163]
  rw [corner_at _ _ _ _ _ n f _ _ _ k194]
  rw [corner_at _ _ _ _ _ n f _ _ _ k225]
  rw [corner_at _ _ _ _ _ n f _ _ _ k256]
  rw [corner_at _ _ _ _ _ n f _ _ _ k287]
  rw [corner_at _ _ _ _ _ n f _ _ _ k318]
  rw [cr, cd, c0, zero_add, w101, w132, w163, w194, w225, w256, w287, w318]
  rfl

end Cert.ReferenceIdeal.Value
-- ==== Proof.RefConv.lean ====
module

public import proofs.«01_k».proof.Proof.RefAt
public import proofs.«01_k».proof.Proof.Local

/-!
The reference's convolution at a row: the spline message of a point.
-/

@[expose] public section

set_option maxRecDepth 16384

noncomputable section

open Idealize.ShloMosaic Idealize.ShloMosaic.TcCoe Idealize.SL.Sem
open Cert.ReferenceIdeal Cert.ReferenceIdeal.Gen Cert.Knn

namespace Cert.ReferenceIdeal.Value

variable (L : Valuation τ sig (Elt Ideal)) (n : Fin 32768)

/-- The reference's turned offsets. -/
theorem turned_at (k : Fin 20) (e : Fin 3) : (res_main_v57 L : FVec Ideal S32768x20x3 .f32) (ix3 n k e)
    = turned (pts L (smp n)) (frm L n) (plc n) k e := by
  rw [v57_at L n k e _ rfl]
  have h := v47_at L n
  unfold turned third along
  rw [h, h]
  simp only [h]

/-- The reference's position. -/
theorem coord_at (e : Fin 3) : (res_main_v70 L : FVec Ideal S32768x3 .f32) (ix2 n e)
    = coord (pts L (smp n)) (frm L n) (plc n) e := by
  rw [v70_at L n e _ rfl]
  have h := turned_at L n
  unfold coord reach
  rw [h]
  simp only [h]

/-- The reference's convolution. -/
theorem message_at (f : Fin 32) : (res_main_v336 L : FVec Ideal S32768x32 .f32) (ix2 n f)
    = message (pts L (smp n)) (frm L n) (plc n) (fun j => (res_main_v80 L : FVec Ideal S125x32 .f32) (ix2 j f))
      + (L (Proc.devRef .tc main_arg3) : FVec Ideal S1x32 .f32) (ix2 0 f)
      + (L (Proc.devRef .tc main_arg4) : FVec Ideal S32 .f32) (ix1 f) := by
  have h := coord_at L n
  have h1 : ∀ e, (res_main_v72 L : FVec Ideal S32768x3 .f32) (ix2 n e)
      = frac (coord (pts L (smp n)) (frm L n) (plc n) e) := fun e => by
    rw [v72_at L n e _ rfl, h]; rfl
  have h2 : ∀ e, (res_main_v75 L : FVec Ideal S32768x3 .f32) (ix2 n e)
      = 1 - frac (coord (pts L (smp n)) (frm L n) (plc n) e) := fun e => by
    rw [v75_at L n e _ rfl, h1, Ideal.ofBits_one_f32]
  have h3 : ∀ e, (res_main_v73 L : IVec S32768x3 32) (ix2 n e)
      = cellOf (coord (pts L (smp n)) (frm L n) (plc n) e) := fun e => by
    rw [v73_at L n e _ rfl, h]; rfl
  rw [v336_at]
  unfold message
  simp only [h1, h2, v76_at L n _ _ rfl, v79_at L n _ _ rfl, h3]

end Cert.ReferenceIdeal.Value
-- ==== Proof.RefHead.lean ====
module

public import proofs.«01_k».proof.Proof.RefConv
public import proofs.«01_k».proof.Proof.HeadModel
public import Idealize.ShloMosaic.Lib.Pointwise

/-!
The reference's second result, read at an index, is the head of the network over its convolution.
-/

@[expose] public section

set_option maxRecDepth 16384

noncomputable section

open Idealize.ShloMosaic Idealize.ShloMosaic.TcCoe Idealize.SL.Sem
open Cert.ReferenceIdeal Cert.ReferenceIdeal.Gen Cert.Knn

namespace Cert.ReferenceIdeal.Value

variable (L : Valuation τ sig (Elt Ideal))

/-- The reference's convolution as a table of rows. -/
def table : Fin 32768 → Fin 32 → EReal := fun n f => (res_main_v336 L : FVec Ideal S32768x32 .f32) (ix2 n f)

/-- The reference's mean. -/
theorem v339_at (f : Fin 32) : (res_main_v339 L : FVec Ideal S32 .f32) (ix1 f) = mean (table L) f := by
  unfold res_main_v339 mean table
  generalize res_main_v336 L = x
  clean_types
  pointwise

/-- An entry less a column's number. -/
theorem centred_at (x : FVec Ideal S32768x32 .f32) (y : FVec Ideal S32 .f32) (n : Fin 32768) (f : Fin 32) :
    (subf x (broadcastInDim S32768x32 ![0, 1] bcast_S1x32_S32768x32_0_1 (broadcastInDim S1x32 ![1] bcast_S32_S1x32_1 y)) : FVec Ideal S32768x32 .f32) (ix2 n f) = x (ix2 n f) - y (ix1 f) := by
  pointwise

/-- The reference's entries less their mean. -/
theorem v342_at (n : Fin 32768) (f : Fin 32) :
    (res_main_v342 L : FVec Ideal S32768x32 .f32) (ix2 n f) = table L n f - mean (table L) f :=
  (centred_at (res_main_v336 L) (res_main_v339 L) n f).trans
    (congrArg (fun t : EReal => table L n f - t) (v339_at L f))

/-- The reference's activation at an entry. -/
theorem act_at (x z : FVec Ideal S32768x32 .f32) (y a5 a6 : FVec Ideal S32 .f32) (n : Fin 32768) (f : Fin 32) :
    ((Host.divf (broadcastInDim S32768x32 ![] bcast_S_S32768x32 (constant S_ .f32 0x3F800000#32)) (addf (broadcastInDim S32768x32 ![] bcast_S_S32768x32 (constant S_ .f32 0x3F800000#32)) (Host.exp (Host.negf (addf (Host.divf (mulf (broadcastInDim S32768x32 ![0, 1] bcast_S1x32_S32768x32_0_1 (broadcastInDim S1x32 ![1] bcast_S32_S1x32_1 a5)) (subf x (broadcastInDim S32768x32 ![0, 1] bcast_S1x32_S32768x32_0_1 (broadcastInDim S1x32 ![1] bcast_S32_S1x32_1 y)))) (broadcastInDim S32768x32 ![0, 1] bcast_S1x32_S32768x32_0_1 (broadcastInDim S1x32 ![1] bcast_S32_S1x32_1 (Host.sqrt (addf (Host.divf (Host.reduceAdd (mulf z z) (constant S_ .f32 0x00000000#32) reducesTo_S32768x32_S32_d0 h_S_) (broadcastInDim S32 ![] bcast_S_S32 (constant S_ .f32 0x47000000#32))) (broadcastInDim S32 ![] bcast_S_S32 (constant S_ .f32 0x3727C5AC#32))))))) (broadcastInDim S32768x32 ![0, 1] bcast_S1x32_S32768x32_0_1 (broadcastInDim S1x32 ![1] bcast_S32_S1x32_1 a6))))))) : FVec Ideal S32768x32 .f32) (ix2 n f)
      = Ideal.logistic (Ideal.div (a5 (ix1 f) * (x (ix2 n f) - y (ix1 f)))
          (Ideal.sqrt (Ideal.div (∑ n, z (ix2 n f) * z (ix2 n f)) (Ideal.ofBits .f32 0x47000000#32)
            + Ideal.ofBits .f32 0x3727C5AC#32)) + a6 (ix1 f)) := by
  unfold Ideal.logistic
  pointwise

/-- The reference's means of the samples. -/
theorem pool_at (A : FVec Ideal S32768x32 .f32) (s f : Fin 32) :
    ((Host.divf (Host.reduceAdd (shapeCast S32x1024x32 A shapeCasts_S32768x32_S32x1024x32) (constant S_ .f32 0x00000000#32) reducesTo_S32x1024x32_S32x32_d1 h_S_) (broadcastInDim S32x32 ![] bcast_S_S32x32 (constant S_ .f32 0x44800000#32))) : FVec Ideal S32x32 .f32) (ix2 s f) = pooled (fun n f => A (ix2 n f)) s f := by
  unfold pooled
  generalize hc : shapeCast S32x1024x32 A shapeCasts_S32768x32_S32x1024x32 = B
  have hB : ∀ p : Fin 1024, B (ix3 s p f) = A (ix2 ⟨s.val * 1024 + p.val, by omega⟩ f) := by
    intro p
    rw [← hc]
    pointwise
  clear hc
  simp only [← hB]
  pointwise

/-- The reference's first dense layer. -/
theorem dense1_at (M : FVec Ideal S32x32 .f32) (a7 : FVec Ideal S32x256 .f32) (a8 : FVec Ideal S256 .f32) (s : Fin 32) (j : Fin 256) :
    (addf (Host.dotGeneral dot_S32x32_S32x256_S32x256_1_0_0_1_n_n none M a7) (broadcastInDim S32x256 ![0, 1] bcast_S1x256_S32x256_0_1 (broadcastInDim S1x256 ![1] bcast_S256_S1x256_1 a8)) : FVec Ideal S32x256 .f32) (ix2 s j)
      = dense (fun s f => M (ix2 s f)) (fun i j => a7 (ix2 i j)) (fun j => a8 (ix1 j)) s j := by
  unfold dense
  pointwise

/-- The reference's exponential linear unit. -/
theorem elu_at (y : FVec Ideal S32x256 .f32) (s : Fin 32) (j : Fin 256) :
    ((select (cmpf .ogt y (broadcastInDim S32x256 ![] bcast_S_S32x256 (constant S_ .f32 0x00000000#32))) y (mulf (broadcastInDim S32x256 ![] bcast_S_S32x256 (constant S_ .f32 0x3F800000#32)) (Host.expm1 (select (cmpf .ogt y (broadcastInDim S32x256 ![] bcast_S_S32x256 (constant S_ .f32 0x00000000#32))) (broadcastInDim S32x256 ![] bcast_S_S32x256 (id (constant S_ .f32 0x00000000#32))) y)))) : FVec Ideal S32x256 .f32) (ix2 s j) = elu (y (ix2 s j)) := by
  pointwise
  unfold elu
  by_cases h : (0 : EReal) < y (ix2 s j)
  · rw [if_pos h, if_pos h]
  · rw [if_neg h, if_neg h, if_neg h, min_eq_left (not_lt.mp h)]

/-- The reference's second dense layer. -/
theorem dense2_at (E : FVec Ideal S32x256 .f32) (a9 : FVec Ideal S256x40 .f32) (a10 : FVec Ideal S40 .f32) (s : Fin 32) (k : Fin 40) :
    (addf (Host.dotGeneral dot_S32x256_S256x40_S32x40_1_0_0_1_n_n none E a9) (broadcastInDim S32x40 ![0, 1] bcast_S1x40_S32x40_0_1 (broadcastInDim S1x40 ![1] bcast_S40_S1x40_1 a10)) : FVec Ideal S32x40 .f32) (ix2 s k)
      = dense (fun s j => E (ix2 s j)) (fun i j => a9 (ix2 i j)) (fun j => a10 (ix1 j)) s k := by
  unfold dense
  pointwise

/-- The reference's entries less their row's largest. -/
theorem shifted_at (z : FVec Ideal S32x40 .f32) (s : Fin 32) (k : Fin 40) :
    (subf z (broadcastInDim S32x40 ![0, 1] bcast_S32x1_S32x40_0_1 (broadcastInDim S32x1 ![0] bcast_S32_S32x1_0 (maximumf (broadcastInDim S32 ![] bcast_S_S32 (constant S_ .f32 0xFF800000#32)) (Host.reduce FloatOps.maximumf z (constant S_ .f32 0xFF800000#32) reducesTo_S32x40_S32_d1 h_S_)))) : FVec Ideal S32x40 .f32) (ix2 s k) = z (ix2 s k) - peak (fun k => z (ix2 s k)) := by
  pointwise
  unfold peak
  rw [bottom, max_eq_right bot_le]

/-- The reference's last step. -/
theorem logged_at (z : FVec Ideal S32x40 .f32) (s : Fin 32) (k : Fin 40) :
    (subf z (broadcastInDim S32x40 ![0, 1] bcast_S32x1_S32x40_0_1 (Host.log (broadcastInDim S32x1 ![0] bcast_S32_S32x1_0 (Host.reduceAdd (Host.exp z) (constant S_ .f32 0x00000000#32) reducesTo_S32x40_S32_d1 h_S_)))) : FVec Ideal S32x40 .f32) (ix2 s k)
      = z (ix2 s k) - Ideal.log (∑ j, Ideal.exp (z (ix2 s j))) := by
  pointwise

/-- The reference's second result. -/
theorem result_at (s : Fin 32) (k : Fin 40) (z : FVec Ideal S32x40 .f32) (hz : z = res_main_call3_v5 L) :
    (subf z (broadcastInDim S32x40 ![0, 1] bcast_S32x1_S32x40_0_1 (Host.log (broadcastInDim S32x1 ![0] bcast_S32_S32x1_0 (Host.reduceAdd (Host.exp z) (constant S_ .f32 0x00000000#32) reducesTo_S32x40_S32_d1 h_S_)))) : FVec Ideal S32x40 .f32) (ix2 s k)
      = headOf (table L) (fun f => (L (Proc.devRef .tc main_arg5) : FVec Ideal S32 .f32) (ix1 f))
          (fun f => (L (Proc.devRef .tc main_arg6) : FVec Ideal S32 .f32) (ix1 f))
          (fun i j => (L (Proc.devRef .tc main_arg7) : FVec Ideal S32x256 .f32) (ix2 i j))
          (fun j => (L (Proc.devRef .tc main_arg8) : FVec Ideal S256 .f32) (ix1 j))
          (fun i j => (L (Proc.devRef .tc main_arg9) : FVec Ideal S256x40 .f32) (ix2 i j))
          (fun j => (L (Proc.devRef .tc main_arg10) : FVec Ideal S40 .f32) (ix1 j)) s k := by
  have hA : ∀ n f, _ = activation (table L) (fun f => (L (Proc.devRef .tc main_arg5) : FVec Ideal S32 .f32) (ix1 f))
      (fun f => (L (Proc.devRef .tc main_arg6) : FVec Ideal S32 .f32) (ix1 f)) n f := fun n f =>
    (act_at (res_main_v336 L) (res_main_v342 L) (res_main_v339 L) (L (Proc.devRef .tc main_arg5))
      (L (Proc.devRef .tc main_arg6)) n f).trans (by
        simp only [v342_at, v339_at]
        rfl)
  have hH : ∀ s j, (res_main_v375 L : FVec Ideal S32x256 .f32) (ix2 s j) = dense (pooled (activation (table L)
      (fun f => (L (Proc.devRef .tc main_arg5) : FVec Ideal S32 .f32) (ix1 f))
      (fun f => (L (Proc.devRef .tc main_arg6) : FVec Ideal S32 .f32) (ix1 f))))
      (fun i j => (L (Proc.devRef .tc main_arg7) : FVec Ideal S32x256 .f32) (ix2 i j))
      (fun j => (L (Proc.devRef .tc main_arg8) : FVec Ideal S256 .f32) (ix1 j)) s j := fun s j => by
    refine (dense1_at _ (L (Proc.devRef .tc main_arg7)) (L (Proc.devRef .tc main_arg8)) s j).trans ?_
    refine congrArg (fun M => dense M (fun i j => (L (Proc.devRef .tc main_arg7) : FVec Ideal S32x256 .f32) (ix2 i j))
      (fun j => (L (Proc.devRef .tc main_arg8) : FVec Ideal S256 .f32) (ix1 j)) s j) (funext fun s => funext fun f => ?_)
    refine (pool_at _ s f).trans ?_
    exact congrArg (fun A => pooled A s f) (funext fun n => funext fun f => hA n f)
  have hZ : ∀ s k, (res_main_v380 L : FVec Ideal S32x40 .f32) (ix2 s k) = _ := fun s k =>
    (dense2_at _ (L (Proc.devRef .tc main_arg9)) (L (Proc.devRef .tc main_arg10)) s k).trans
      (congrArg (fun M => dense M (fun i j => (L (Proc.devRef .tc main_arg9) : FVec Ideal S256x40 .f32) (ix2 i j))
        (fun j => (L (Proc.devRef .tc main_arg10) : FVec Ideal S40 .f32) (ix1 j)) s k)
        (funext fun s => funext fun j => (elu_at (res_main_v375 L) s j).trans (congrArg elu (hH s j))))
  have h5 : ∀ k, z (ix2 s k) = _ := fun k => (congrFun hz (ix2 s k)).trans (shifted_at (res_main_v380 L) s k)
  rw [logged_at]
  simp only [h5, hZ]
  rfl

end Cert.ReferenceIdeal.Value
-- ==== Proof.Pre.lean ====
module

public import proofs.«01_k».proof.Pre_generic_inputs
public import proofs.«01_k».proof.Proof.RefConv
public import Idealize.ShloMosaic.Lib.ReduceAll

/-!
The precondition, read: the points and the frames are real numbers, the twenty-first neighbour of a point
is farther than the twentieth, and the third projections of a point's neighbours do not add up to zero.
-/

@[expose] public section

set_option maxRecDepth 16384

noncomputable section

open Idealize.ShloMosaic Idealize.ShloMosaic.TcCoe Idealize.SL.Sem
open Cert.ReferenceIdeal Cert.ReferenceIdeal.Gen Cert.Knn

namespace Cert.ReferenceIdeal.Value

/-- The precondition's side conditions. -/
theorem preFacts : Cert.Pre_generic_inputs.Facts := by
  constructor <;> decide

section
variable [hpre : Cert.Pre_generic_inputs.Facts]

/-- A conjunction of two bits that is set has both set. -/
theorem both (a b : BitVec 1) (h : IntOp.andi a b = 1#1) : a = 1#1 ∧ b = 1#1 := by
  revert a b
  decide

/-- A value whose magnitude is below infinity is a real number. -/
theorem real_of_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have top : Ideal.ofBits .f32 0x7F800000#32 = (⊤ : EReal) := by
    simp [Ideal.ofBits, Ideal.ieee]
  rw [top] at h
  have h' : max x (-x) < (⊤ : EReal) := by
    by_contra hn
    have : BitVec.ofBool (decide (max x (-x) < (⊤ : EReal))) = 1#1 := h
    rw [decide_eq_false hn] at this
    exact absurd this (by decide)
  induction x using EReal.rec with
  | bot => simp at h'
  | top => simp at h'
  | coe r => exact ⟨r, rfl⟩

/-- The offsets, from the words of the samples, the words of the neighbours and the points. -/
def offsetsOf (w : IVec S32x1x1 32) (i : IVec S32x1024x20 32) (x : FVec Ideal S32x1024x3 .f32) : FVec Ideal S32768x20x3 .f32 :=
  shapeCast S32768x20x3 (subf (broadcastInDim S32x1024x20x3 ![0, 1, 2, 3] bcast_S32x1024x1x3_S32x1024x20x3_0_1_2_3 (broadcastInDim S32x1024x1x3 ![0, 1, 3] bcast_S32x1024x3_S32x1024x1x3_0_1_3 x)) (Host.gather gather_S32x1024x3_S32x1024x20x2_S32x1024x20x3_3_01_n_n_01_3_113 x (concatenate S32x1024x20x2 3 [⟨S32x1024x20x1, (broadcastInDim S32x1024x20x1 ![0, 1, 2] bcast_S32x1024x20_S32x1024x20x1_0_1_2 (broadcastInDim S32x1024x20 ![0, 1, 2] bcast_S32x1x1_S32x1024x20_0_1_2 (select (cmpi .slt w (broadcastInDim S32x1x1 ![] bcast_S_S32x1x1 (constantI S_ 32 0#32))) (addi w (broadcastInDim S32x1x1 ![] bcast_S_S32x1x1 (constantI S_ 32 32#32))) w)))⟩, ⟨S32x1024x20x1, (broadcastInDim S32x1024x20x1 ![0, 1, 2] bcast_S32x1024x20_S32x1024x20x1_0_1_2 (select (cmpi .slt i (broadcastInDim S32x1024x20 ![] bcast_S_S32x1024x20 (constantI S_ 32 0#32))) (addi i (broadcastInDim S32x1024x20 ![] bcast_S_S32x1024x20 (constantI S_ 32 1024#32))) i))⟩] concatenates_S32x1024x20x1_S32x1024x20x1_S32x1024x20x2_d3))) shapeCasts_S32x1024x20x3_S32768x20x3

/-- The third projections of a point's neighbours, added up. -/
def thirdsOf (y : FVec Ideal S32768x20x3 .f32) (v : FVec Ideal S32768x3x3 .f32) : FVec Ideal S32768 .f32 :=
  Host.reduceAdd (shapeCast S32768x20 (extractStridedSlice S32768x20x1 ![0, 0, 2]
    (Host.dotGeneral (φ₁ := .f32) (φ₂ := .f32) dot_S32768x20x3_S32768x3x3_S32768x20x3_2_1_1_2_0_0 none y v) hpre.slices_S32768x20x3_S32768x20x1_0_0_2)
    hpre.shapeCasts_S32768x20x1_S32768x20) (constant S_ .f32 0x00000000#32) hpre.reducesTo_S32768x20_S32768_d1 h_S_

/-- Twenty-one neighbours, by the negated distances. -/
def nearest (d : FVec Ideal S32x1024x1024 .f32) :=
  Host.topK Cert.Pre_generic_inputs.S32x1024x21 2 (FloatOps.cmpfTotal .gt) d hpre.sliceFits_S32x1024x1024_S32x1024x21

variable (L : Valuation τ sig (Elt Ideal))

/-- The precondition's four parts. -/
theorem fn_parts (p : FVec Ideal S32768x3 .f32) (hp : p = L (Proc.devRef .tc main_arg0)) (v : FVec Ideal S32768x3x3 .f32)
    (a2 : FVec Ideal S125x1x32 .f32) (a3 : FVec Ideal S1x32 .f32) (a4 a5 a6 : FVec Ideal S32 .f32)
    (a7 : FVec Ideal S32x256 .f32) (a8 : FVec Ideal S256 .f32) (a9 : FVec Ideal S256x40 .f32) (a10 : FVec Ideal S40 .f32)
    (d : FVec Ideal S32x1024x1024 .f32) (hd : d = res_main_v23 L) (w : IVec S32x1x1 32) (hw : w = res_main_v25 L) :
    Cert.Pre_generic_inputs.fn (F := Ideal) p v a2 a3 a4 a5 a6 a7 a8 a9 a10
      = andi (andi (andi
          (Host.reduce IntOp.andi (cmpf .olt (Host.absf p)
            (broadcastInDim S32768x3 ![] hpre.bcast_S_S32768x3 (constant S_ .f32 0x7F800000#32))) (constantI S_ 1 1#1)
            hpre.reducesTo_S32768x3_S_d0_1 h_S_)
          (Host.reduce IntOp.andi (cmpf .olt (Host.absf v)
            (broadcastInDim S32768x3x3 ![] hpre.bcast_S_S32768x3x3 (constant S_ .f32 0x7F800000#32))) (constantI S_ 1 1#1)
            hpre.reducesTo_S32768x3x3_S_d0_1_2 h_S_))
          (Host.reduce IntOp.andi (cmpf .ogt
            (shapeCast Cert.Pre_generic_inputs.S32x1024 (extractStridedSlice Cert.Pre_generic_inputs.S32x1024x1 ![0, 0, 19] (nearest d).1
              hpre.slices_S32x1024x21_S32x1024x1_0_0_19) hpre.shapeCasts_S32x1024x1_S32x1024)
            (shapeCast Cert.Pre_generic_inputs.S32x1024 (extractStridedSlice Cert.Pre_generic_inputs.S32x1024x1 ![0, 0, 20] (nearest d).1
              hpre.slices_S32x1024x21_S32x1024x1_0_0_20) hpre.shapeCasts_S32x1024x1_S32x1024)) (constantI S_ 1 1#1)
            hpre.reducesTo_S32x1024_S_d0_1 h_S_))
          (Host.reduce IntOp.andi (cmpf .une
            (thirdsOf (offsetsOf w (extractStridedSlice S32x1024x20 ![0, 0, 0] (nearest d).2
              hpre.slices_S32x1024x21_S32x1024x20_0_0_0) (res_main_v0 L)) v)
            (broadcastInDim S32768 ![] bcast_S_S32768 (constant S_ .f32 0x00000000#32))) (constantI S_ 1 1#1)
            hpre.reducesTo_S32768_S_d0 h_S_) := by
  subst hd hw hp
  rfl

/-- The twenty-one distances and neighbours, read. -/
theorem nearest_at (d : FVec Ideal S32x1024x1024 .f32) (hd : d = res_main_v23 L) (b : Fin 32) (p : Fin 1024) (k : Fin 21) :
    (nearest d).1 (ix3 b p k) = -sqd (pts L b) p (nbr (pts L b) p (k.castLE (by decide)))
      ∧ (nearest d).2 (ix3 b p k) = BitVec.ofNat 32 (nbr (pts L b) p (k.castLE (by decide))).val := by
  have hx : ∀ q, d (ix3 b p q) = -sqd (pts L b) p q := fun q => by rw [hd]; exact v23_at L b p q
  have hs : (fun q => -d (ix3 b p q)) = sqd (pts L b) p := by
    funext q
    rw [hx, neg_neg]
  have h := topK_at d (by decide) hpre.sliceFits_S32x1024x1024_S32x1024x21 b p k
  rw [hs, hx] at h
  exact h

/-- The first twenty of the twenty-one neighbours are the reference's. -/
theorem twenty (d : FVec Ideal S32x1024x1024 .f32) (hd : d = res_main_v23 L) :
    extractStridedSlice S32x1024x20 ![0, 0, 0] (nearest d).2 hpre.slices_S32x1024x21_S32x1024x20_0_0_0 = res_main_indices L := by
  funext i
  obtain ⟨b, p, k, rfl⟩ : ∃ (b : Fin 32) (p : Fin 1024) (k : Fin 20), i = ix3 b p k :=
    ⟨i 0, i 1, i 2, by funext a; match a with | ⟨0, _⟩ => rfl | ⟨1, _⟩ => rfl | ⟨2, _⟩ => rfl⟩
  refine Eq.trans ?_ (indices_at L b p k).symm
  refine Eq.trans ?_ (nearest_at L d hd b p (k.castLE (by decide))).2
  generalize (nearest d).2 = w
  clear hd
  pointwise
  rfl

/-- The third projections' sum, read. -/
theorem thirds_at (v : FVec Ideal S32768x3x3 .f32) (hv : v = L (Proc.devRef .tc main_arg1)) (n : Fin 32768) :
    thirdsOf (res_main_v44 L) v (ix1 n) = third (pts L (smp n)) (frm L n) (plc n) := by
  have h : ∀ (k : Fin 20) (e : Fin 3), _ := fun k e => v47_at L n k e
  unfold third along
  simp only [← h]
  have e : thirdsOf (res_main_v44 L) v = Host.reduceAdd (shapeCast S32768x20 (extractStridedSlice S32768x20x1 ![0, 0, 2]
    (res_main_v47 L : FVec Ideal S32768x20x3 .f32) hpre.slices_S32768x20x3_S32768x20x1_0_0_2)
    hpre.shapeCasts_S32768x20x1_S32768x20) (constant S_ .f32 0x00000000#32) hpre.reducesTo_S32768x20_S32768_d1 h_S_ := by
    subst hv
    rfl
  rw [e]
  generalize res_main_v47 L = y
  clear h e hv
  clean_types
  pointwise

/-- What the precondition says of the points and the frames. -/
theorem pre_read (a2 : FVec Ideal S125x1x32 .f32) (a3 : FVec Ideal S1x32 .f32) (a4 a5 a6 : FVec Ideal S32 .f32)
    (a7 : FVec Ideal S32x256 .f32) (a8 : FVec Ideal S256 .f32) (a9 : FVec Ideal S256x40 .f32) (a10 : FVec Ideal S40 .f32)
    (p : FVec Ideal S32768x3 .f32) (hp : p = L (Proc.devRef .tc main_arg0))
    (v : FVec Ideal S32768x3x3 .f32) (hv : v = L (Proc.devRef .tc main_arg1))
    (h : Cert.Pre_generic_inputs.fn (F := Ideal) p v a2 a3 a4 a5 a6 a7 a8 a9 a10 = fun _ => 1#1) :
    (∀ i, ∃ r : ℝ, p i = (r : EReal)) ∧ (∀ i, ∃ r : ℝ, v i = (r : EReal))
      ∧ (∀ (b : Fin 32) (r : Fin 1024), sqd (pts L b) r (nbr (pts L b) r 19) < sqd (pts L b) r (nbr (pts L b) r 20))
      ∧ ∀ n : Fin 32768, third (pts L (smp n)) (frm L n) (plc n) ≠ 0 := by
  obtain ⟨d, hd⟩ : ∃ d : FVec Ideal S32x1024x1024 .f32, d = res_main_v23 L := ⟨_, rfl⟩
  have h' := fn_parts L p hp v a2 a3 a4 a5 a6 a7 a8 a9 a10 d hd _ rfl
  subst hv
  have h0 := congrFun (h'.symm.trans h) (fun a => a.elim0)
  obtain ⟨h0, h4⟩ := both _ _ h0
  obtain ⟨h0, h3⟩ := both _ _ h0
  obtain ⟨h1, h2⟩ := both _ _ h0
  have hsub : Subsingleton S_.Idx := ⟨fun a b => funext fun i => i.elim0⟩
  refine ⟨fun i => ?_, fun i => ?_, fun b r => ?_, fun n => ?_⟩
  · exact real_of_lt _ (Host.reduce_andi_all _ _ _ _ _ h1 i)
  · exact real_of_lt _ (Host.reduce_andi_all _ _ _ _ _ h2 i)
  · have g := Host.reduce_andi_all _ _ _ _ _ h3 (ix2 b r)
    have n19 := (nearest_at L d hd b r 19).1
    have n20 := (nearest_at L d hd b r 20).1
    have g' : FloatOps.cmpf (F := Ideal) (φ := .f32) .ogt ((nearest d).1 (ix3 b r 19)) ((nearest d).1 (ix3 b r 20)) = 1#1 := by
      refine Eq.trans ?_ g
      generalize (nearest d).1 = y
      clear * -
      pointwise
    rw [n19, n20] at g'
    have g2 : BitVec.ofBool (decide (-sqd (pts L b) r (nbr (pts L b) r 20) < -sqd (pts L b) r (nbr (pts L b) r 19))) = 1#1 := g'
    by_contra hn
    rw [decide_eq_false (fun e => hn (EReal.neg_lt_neg_iff.mp e))] at g2
    exact absurd g2 (by decide)
  · have g := Host.reduce_andi_all _ _ _ _ _ h4 (ix1 n)
    rw [twenty L d hd] at g
    have z : (broadcastInDim S32768 ![] bcast_S_S32768 (constant S_ .f32 0x00000000#32) : FVec Ideal S32768 .f32) (ix1 n) = (0 : EReal) := by
      pointwise
    have g' : FloatOps.cmpf (F := Ideal) (φ := .f32) .une (thirdsOf (res_main_v44 L) (L (Proc.devRef .tc main_arg1)) (ix1 n))
        ((broadcastInDim S32768 ![] bcast_S_S32768 (constant S_ .f32 0x00000000#32) : FVec Ideal S32768 .f32) (ix1 n)) = 1#1 := g
    rw [thirds_at L _ rfl, z] at g'
    intro hz
    rw [hz] at g'
    have : BitVec.ofBool (decide ((0 : EReal) ≠ 0)) = 1#1 := g'
    simp at this

end

end Cert.ReferenceIdeal.Value
-- ==== Proof.Values.lean ====
module

public import proofs.«01_k».proof.Proof.KernelRun
public import proofs.«01_k».proof.Proof.Message
public import proofs.«01_k».proof.Proof.Head
public import proofs.«01_k».proof.Proof.RefHead
public import proofs.«01_k».proof.Proof.Pre

/-!
The kernel's two results are the reference's, index by index, under the precondition.
-/

@[expose] public section

set_option maxRecDepth 16384

noncomputable section

open Idealize.ShloMosaic Idealize.ShloMosaic.TcCoe Idealize.SL.Sem
open Cert.KernelIdeal Cert.KernelIdeal.Gen Cert.Knn
open Cert.KernelIdeal.Knn Cert.KernelIdeal.Arr
open Cert.ReferenceIdeal.Value (smp plc pts frm table)

namespace Cert.KernelIdeal.Values

/-- The row of a sample's point. -/
abbrev row (b : Fin 32) (p : Fin 1024) : Fin 32768 := ⟨b.val * 1024 + p.val, by omega⟩

/-- A row's sample. -/
theorem smp_row (b : Fin 32) (p : Fin 1024) : smp (row b p) = b :=
  Fin.ext (by show (b.val * 1024 + p.val) / 1024 = b.val; omega)
/-- A row's place in its sample. -/
theorem plc_row (b : Fin 32) (p : Fin 1024) : plc (row b p) = p :=
  Fin.ext (by show (b.val * 1024 + p.val) % 1024 = p.val; omega)
/-- A row is the one of its sample and place. -/
theorem row_smp (n : Fin 32768) : row (smp n) (plc n) = n :=
  Fin.ext (by show n.val / 1024 * 1024 + n.val % 1024 = n.val; omega)

/-- The nine numbers of a frame are its entries. -/
theorem nine_at (v : FVec Ideal S32768x3x3 .f32) (b : Fin 32) (p : Fin 1024) (a e : Fin 3) :
    (shapeCast S32x1024x9 v shapeCasts_S32768x3x3_S32x1024x9 : FVec Ideal S32x1024x9 .f32) (ix3 b p ⟨a.val * 3 + e.val, by omega⟩)
      = v (ix3 (row b p) a e) := by
  pointwise

/-- A row of a table of rows, sample by sample. -/
theorem rows_at (y : FVec Ideal S32x1024x32 .f32) (n : Fin 32768) (f : Fin 32) :
    (shapeCast S32768x32 y shapeCasts_S32x1024x32_S32768x32 : FVec Ideal S32768x32 .f32) (ix2 n f) = y (ix3 (smp n) (plc n) f) := by
  pointwise

/-- A vector of 32 entries seen as one row. -/
theorem lift32 (x : FVec Ideal S32 .f32) (f : Fin 32) :
    (shapeCast S1x32 x shapeCasts_S32_S1x32 : FVec Ideal S1x32 .f32) (ix2 0 f) = x (ix1 f) := by
  pointwise
/-- A vector of 256 entries seen as one row. -/
theorem lift256 (x : FVec Ideal S256 .f32) (f : Fin 256) :
    (shapeCast S1x256 x shapeCasts_S256_S1x256 : FVec Ideal S1x256 .f32) (ix2 0 f) = x (ix1 f) := by
  pointwise
/-- A vector of 40 entries seen as one row. -/
theorem lift40 (x : FVec Ideal S40 .f32) (f : Fin 40) :
    (shapeCast S1x40 x shapeCasts_S40_S1x40 : FVec Ideal S1x40 .f32) (ix2 0 f) = x (ix1 f) := by
  pointwise

section
variable (m : (ℓ : Loc nD τ sig) → Buf (Elt Ideal) ℓ) (c : Dev nD)
  (L : Valuation Cert.ReferenceIdeal.τ Cert.ReferenceIdeal.sig (Elt Ideal))

/-- The two programs' arguments agree. -/
structure Same : Prop where
  h0 : (L (Proc.devRef .tc Cert.ReferenceIdeal.main_arg0) : FVec Ideal ⟨2, ![32768, 3]⟩ .f32) = m ((c : Thread nD τ).loc main_arg0)
  h1 : (L (Proc.devRef .tc Cert.ReferenceIdeal.main_arg1) : FVec Ideal ⟨3, ![32768, 3, 3]⟩ .f32) = m ((c : Thread nD τ).loc main_arg1)
  h2 : (L (Proc.devRef .tc Cert.ReferenceIdeal.main_arg2) : FVec Ideal ⟨3, ![125, 1, 32]⟩ .f32) = m ((c : Thread nD τ).loc main_arg2)
  h3 : (L (Proc.devRef .tc Cert.ReferenceIdeal.main_arg3) : FVec Ideal ⟨2, ![1, 32]⟩ .f32) = m ((c : Thread nD τ).loc main_arg3)
  h4 : (L (Proc.devRef .tc Cert.ReferenceIdeal.main_arg4) : FVec Ideal ⟨1, ![32]⟩ .f32) = m ((c : Thread nD τ).loc main_arg4)
  h5 : (L (Proc.devRef .tc Cert.ReferenceIdeal.main_arg5) : FVec Ideal ⟨1, ![32]⟩ .f32) = m ((c : Thread nD τ).loc main_arg5)
  h6 : (L (Proc.devRef .tc Cert.ReferenceIdeal.main_arg6) : FVec Ideal ⟨1, ![32]⟩ .f32) = m ((c : Thread nD τ).loc main_arg6)
  h7 : (L (Proc.devRef .tc Cert.ReferenceIdeal.main_arg7) : FVec Ideal ⟨2, ![32, 256]⟩ .f32) = m ((c : Thread nD τ).loc main_arg7)
  h8 : (L (Proc.devRef .tc Cert.ReferenceIdeal.main_arg8) : FVec Ideal ⟨1, ![256]⟩ .f32) = m ((c : Thread nD τ).loc main_arg8)
  h9 : (L (Proc.devRef .tc Cert.ReferenceIdeal.main_arg9) : FVec Ideal ⟨2, ![256, 40]⟩ .f32) = m ((c : Thread nD τ).loc main_arg9)
  h10 : (L (Proc.devRef .tc Cert.ReferenceIdeal.main_arg10) : FVec Ideal ⟨1, ![40]⟩ .f32) = m ((c : Thread nD τ).loc main_arg10)

variable (hs : Same m c L)
include hs

/-- A sample's points, on both sides. -/
theorem points_pts (b : Fin 32) : pnt (sample m c b) = pts L b := by
  have h := hs.h0
  funext p e
  show (shapeCast S32x1024x3 (m ((c : Thread nD τ).loc main_arg0)) shapeCasts_S32768x3_S32x1024x3 : FVec Ideal S32x1024x3 .f32) (ix3 b p e)
    = (shapeCast S32x1024x3 (L (Proc.devRef .tc Cert.ReferenceIdeal.main_arg0) : FVec Ideal S32768x3 .f32) shapeCasts_S32768x3_S32x1024x3 : FVec Ideal S32x1024x3 .f32) (ix3 b p e)
  rw [h]

/-- A point's frame, on both sides. -/
theorem frames_frm (b : Fin 32) (p : Fin 1024) :
    frameOf (blk3 (B := 32) (P := 1024) (C := 9) (frames m c) b) p = frm L (row b p) := by
  have h := hs.h1
  funext a e
  refine (nine_at (m ((c : Thread nD τ).loc main_arg1)) b p a e).trans ?_
  rw [← h]
  rfl

/-- What the precondition gives, of the points and frames of the reference. -/
structure Generic (L : Valuation Cert.ReferenceIdeal.τ Cert.ReferenceIdeal.sig (Elt Ideal)) : Prop where
  points : ∀ i, ∃ r : ℝ, (L (Proc.devRef .tc Cert.ReferenceIdeal.main_arg0) : FVec Ideal S32768x3 .f32) i = (r : EReal)
  frames : ∀ i, ∃ r : ℝ, (L (Proc.devRef .tc Cert.ReferenceIdeal.main_arg1) : FVec Ideal S32768x3x3 .f32) i = (r : EReal)
  gap : ∀ (b : Fin 32) (r : Fin 1024), sqd (pts L b) r (nbr (pts L b) r 19) < sqd (pts L b) r (nbr (pts L b) r 20)
  third : ∀ n : Fin 32768, third (pts L (smp n)) (frm L n) (plc n) ≠ 0

variable (hg : Generic L)
include hg

omit hs in
/-- The points are real numbers. -/
theorem pts_real (b : Fin 32) : ∃ x : Fin 1024 → Fin 3 → ℝ, ∀ p e, pts L b p e = (x p e : EReal) := by
  have h : ∀ p e, ∃ r : ℝ, pts L b p e = (r : EReal) := fun p e => hg.points _
  choose x hx using h
  exact ⟨x, hx⟩

/-- The first result, read. -/
theorem covs_ref (b : Fin 32) (p : Fin 1024) (e : Fin 9) (y : FVec Ideal Cert.ReferenceIdeal.S32768x10x3 .f32)
    (hy : y = Cert.ReferenceIdeal.Value.res_main_v45 L) :
    covs m c (ix3 b p e) = (shapeCast Cert.ReferenceIdeal.S32x1024x9
      (Host.dotGeneral Cert.ReferenceIdeal.dot_S32768x10x3_S32768x10x3_S32768x3x3_1_1_2_2_0_0 (F := Ideal) (φ₁ := .f32)
        (φ₂ := .f32) none y y) Cert.ReferenceIdeal.Gen.shapeCasts_S32768x3x3_S32x1024x9 : FVec Ideal S32x1024x9 .f32) (ix3 b p e) := by
  have h := Cert.ReferenceIdeal.Value.cov_at L (row b p) e y hy
  rw [smp_row, plc_row] at h
  obtain ⟨x, hx⟩ := pts_real L hg b
  have hp := points_pts m c L hs b
  refine Eq.trans ?_ h.symm
  rw [← hp] at hx ⊢
  exact out0_1_at (sample m c b) p (sqd_lt _ p x hx) e

/-- The second call's rows are the reference's. -/
theorem conv_ref (b : Fin 32) (p : Fin 1024) (f : Fin 32) : conv m c b (ix3 0 p f) = table L (row b p) f := by
  have h := Cert.ReferenceIdeal.Value.message_at L (row b p) f
  have h3 := hg.third (row b p)
  rw [smp_row, plc_row] at h h3
  have gap := hg.gap b p
  have hV : ∃ v : Fin 3 → Fin 3 → ℝ, ∀ a e, frm L (row b p) a e = (v a e : EReal) := by
    have h : ∀ a e, ∃ r : ℝ, frm L (row b p) a e = (r : EReal) := fun a e => hg.frames _
    choose v hv using h
    exact ⟨v, hv⟩
  obtain ⟨v, hv⟩ := hV
  obtain ⟨x, hx⟩ := pts_real L hg b
  have hp := points_pts m c L hs b
  have hf := frames_frm m c L hs b p
  refine Eq.trans ?_ h.symm
  have h2 := hs.h2
  have h4 := hs.h4
  rw [hs.h3, h4]
  rw [← hp] at hx h3 gap ⊢
  rw [← hf] at hv h3 ⊢
  refine (message_at (sample m c b) (blk3 (B := 32) (P := 1024) (C := 9) (frames m c) b) _ _ _ _ _ _ p f rfl rfl rfl
    x v hx hv h3 gap).trans ?_
  rw [lift32, ← h2]
  rfl

/-- The second result, read. -/
theorem head_ref (s : Fin 32) (k : Fin 40) (z : FVec Ideal S32x40 .f32)
    (hz : z = Cert.ReferenceIdeal.Value.res_main_call3_v5 L) :
    head m c (ix2 s k) = (subf z (broadcastInDim Cert.ReferenceIdeal.S32x40 ![0, 1] Cert.ReferenceIdeal.Gen.bcast_S32x1_S32x40_0_1
      (Host.log (broadcastInDim Cert.ReferenceIdeal.S32x1 ![0] Cert.ReferenceIdeal.Gen.bcast_S32_S32x1_0
        (Host.reduceAdd (Host.exp z) (constant Cert.ReferenceIdeal.S_ .f32 0x00000000#32)
          Cert.ReferenceIdeal.Gen.reducesTo_S32x40_S32_d1 Cert.ReferenceIdeal.Gen.h_S_)))) : FVec Ideal S32x40 .f32) (ix2 s k) := by
  refine Eq.trans ?_ (Cert.ReferenceIdeal.Value.result_at L s k z hz).symm
  rw [hs.h5, hs.h6, hs.h7, hs.h8, hs.h9, hs.h10]
  unfold head
  rw [out2_7_at]
  simp only [lift32, lift256, lift40, rows_at]
  have e : (fun (n : Fin 32768) (f : Fin 32) => conv m c (smp n) (ix3 0 (plc n) f)) = table L := by
    funext n f
    rw [conv_ref m c L hs hg, row_smp]
  rw [← e]
  rfl

end

end Cert.KernelIdeal.Values
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.KernelIdeal.Values (Same Generic covs_ref head_ref)

/-- The kernel's frame. -/
theorem frame_kernel : Cert.quiescent_Kernel := fun m ρ _ => Cert.Kernel.Gen.frame m ρ
/-- Its idealization's frame. -/
theorem frame_ideal : Cert.quiescent_KernelIdeal := fun m ρ _ => Cert.KernelIdeal.Gen.frame m ρ
/-- The same under the precondition. -/
theorem frame_ideal_pre [inst : Cert.Pre_generic_inputs.Facts] : Cert.quiescent_KernelIdeal_pre_generic_inputs :=
  fun m ρ _ => Cert.KernelIdeal.Gen.frame m ρ
/-- The reference's frame: its run read at the arguments; it declares no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)
/-- The same under the precondition. -/
theorem frame_reference_pre [inst : Cert.Pre_generic_inputs.Facts] : Cert.quiescent_ReferenceIdeal_pre_generic_inputs :=
  fun m ρ _ => frame_reference m ρ trivial

/-- The one rewrite: the sign put on `1.0`. -/
theorem preserves : Cert.preserves_Kernel_KernelIdeal := IdealRules.sign_bit.statement Cert.KernelIdeal.S1024x1 .f32

/-- The kernel's results are the reference's. -/
theorem algebraic [inst : Cert.Pre_generic_inputs.Facts] : Cert.algebraic_KernelIdeal_ReferenceIdeal_pre_generic_inputs := by
  intro m g m' g' hpre hagree
  have hs : ∀ c : Dev Cert.KernelIdeal.nD, Same m c (StableHlo.launchContents m' c) := fun c => by
    obtain ⟨h0, h1, h2, h3, h4, h5, h6, h7, h8, h9, h10⟩ := hagree c
    exact ⟨h0, h1, h2, h3, h4, h5, h6, h7, h8, h9, h10⟩
  have hg : ∀ c : Dev Cert.KernelIdeal.nD, Generic (StableHlo.launchContents m' c) := fun c => by
    obtain ⟨a, b, d, e⟩ := Cert.ReferenceIdeal.Value.pre_read (StableHlo.launchContents m' c) _ _ _ _ _ _ _ _ _
      _ (hs c).h0.symm _ (hs c).h1.symm (hpre c)
    refine ⟨fun i => ?_, fun i => ?_, d, e⟩
    · rw [(hs c).h0]; exact a i
    · rw [(hs c).h1]; exact b i
  refine ⟨fun c => Cert.KernelIdeal.Arr.covs m c, fun c => Cert.KernelIdeal.Arr.head m c,
    Cert.KernelIdeal.Arr.run m g, ?_⟩
  refine (θ_run Cert.ReferenceIdeal.defs _ _).mono (fun r h c => ⟨(h c).1.trans ?_, (h c).2.1.trans ?_, (h c).2.2⟩)
    (Cert.ReferenceIdeal.Value.run (F := Ideal) m' g')
  · funext i
    obtain ⟨b, p, e, rfl⟩ : ∃ (b : Fin 32) (p : Fin 1024) (e : Fin 9), i = ix3 b p e :=
      ⟨i 0, i 1, i 2, by funext a; match a with | ⟨0, _⟩ => rfl | ⟨1, _⟩ => rfl | ⟨2, _⟩ => rfl⟩
    exact (covs_ref m c _ (hs c) (hg c) b p e _ rfl).symm
  · funext i
    obtain ⟨s, k, rfl⟩ : ∃ (s : Fin 32) (k : Fin 40), i = ix2 s k :=
      ⟨i 0, i 1, by funext a; match a with | ⟨0, _⟩ => rfl | ⟨1, _⟩ => rfl⟩
    exact (head_ref m c _ (hs c) (hg c) s k _ rfl).symm

/-- The certificate's claim. -/
theorem claim : Cert.Claim :=
  ⟨Cert.Kernel.Gen.facts, Cert.KernelIdeal.Gen.facts, Cert.ReferenceIdeal.Gen.facts, Cert.ReferenceIdeal.Value.preFacts,
    frame_kernel, frame_ideal,
    frame_ideal_pre (inst := Cert.ReferenceIdeal.Value.preFacts),
    frame_reference,
    frame_reference_pre (inst := Cert.ReferenceIdeal.Value.preFacts),
    preserves,
    algebraic (inst := Cert.ReferenceIdeal.Value.preFacts)⟩

end Cert.Proof
